-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S2x512x2x128 Cert.KernelIdeal.S2x512x1x128
  ∧ IdealRules.bf16_pair.PackStatement Cert.KernelIdeal.S64x256
  ∧ IdealRules.bf16_pair.Statement Cert.KernelIdeal.S1x64x2x128 Cert.KernelIdeal.S1x64x1x128
  ∧ IdealRules.bf16_pair.Statement Cert.KernelIdeal.S1x8x2x128 Cert.KernelIdeal.S1x8x1x128
  ∧ IdealRules.bf16_pair.Statement Cert.KernelIdeal.S16x256 Cert.KernelIdeal.S8x256
  ∧ IdealRules.bf16_pair.PackStatement Cert.KernelIdeal.S48x256
  ∧ IdealRules.bf16_pair.Statement Cert.KernelIdeal.S96x256 Cert.KernelIdeal.S48x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x4096 : Shape := ⟨3, ![48, 1, 4096]⟩
abbrev S22016x2048 : Shape := ⟨2, ![22016, 2048]⟩
abbrev S22016x16 : Shape := ⟨2, ![22016, 16]⟩
abbrev S22016x128 : Shape := ⟨2, ![22016, 128]⟩
abbrev S16x22016 : Shape := ⟨2, ![16, 22016]⟩
abbrev S48x4096 : Shape := ⟨2, ![48, 4096]⟩
abbrev S48x22016 : Shape := ⟨2, ![48, 22016]⟩
abbrev S512x2048 : Shape := ⟨2, ![512, 2048]⟩
abbrev S16x512 : Shape := ⟨2, ![16, 512]⟩
abbrev S512x128 : Shape := ⟨2, ![512, 128]⟩
abbrev S48x512 : Shape := ⟨2, ![48, 512]⟩
abbrev S96x8192 : Shape := ⟨2, ![96, 8192]⟩
abbrev S2x512x128 : Shape := ⟨3, ![2, 512, 128]⟩
abbrev S128x256 : Shape := ⟨2, ![128, 256]⟩
abbrev S48x128 : Shape := ⟨2, ![48, 128]⟩
abbrev S48x256 : Shape := ⟨2, ![48, 256]⟩
abbrev S128x128 : Shape := ⟨2, ![128, 128]⟩
abbrev S256x128 : Shape := ⟨2, ![256, 128]⟩
abbrev S64x256 : Shape := ⟨2, ![64, 256]⟩
abbrev S8x512 : Shape := ⟨2, ![8, 512]⟩
abbrev S8x128 : Shape := ⟨2, ![8, 128]⟩
abbrev S8x128x1 : Shape := ⟨3, ![8, 128, 1]⟩
abbrev S8x256 : Shape := ⟨2, ![8, 256]⟩
abbrev S8x1x256 : Shape := ⟨3, ![8, 1, 256]⟩
abbrev S8x2x256 : Shape := ⟨3, ![8, 2, 256]⟩
abbrev S16x256 : Shape := ⟨2, ![16, 256]⟩
abbrev S16x1x256 : Shape := ⟨3, ![16, 1, 256]⟩
abbrev S16x4x256 : Shape := ⟨3, ![16, 4, 256]⟩
abbrev S64x128 : Shape := ⟨2, ![64, 128]⟩
abbrev S1x64x128 : Shape := ⟨3, ![1, 64, 128]⟩
abbrev S96x256 : Shape := ⟨2, ![96, 256]⟩
abbrev S64x1x256 : Shape := ⟨3, ![64, 1, 256]⟩
abbrev S64x8x256 : Shape := ⟨3, ![64, 8, 256]⟩
abbrev S512x256 : Shape := ⟨2, ![512, 256]⟩
abbrev S1x8x128 : Shape := ⟨3, ![1, 8, 128]⟩
abbrev S256x256 : Shape := ⟨2, ![256, 256]⟩
abbrev S48x128x1 : Shape := ⟨3, ![48, 128, 1]⟩

abbrev nBuf : Space → Nat
  | .hbm => 10
  | .vmem => 16
  | .smem => 0
  | _ => 0

abbrev bufTy : (tb : Table) → Fin (tcTables nBuf tb) → BufTy
  | .hbm, ⟨0, _⟩ => ⟨S48x1x4096, .bf16⟩
  | .hbm, ⟨1, _⟩ => ⟨S22016x2048, .i8⟩
  | .hbm, ⟨2, _⟩ => ⟨S22016x16, .i16⟩
  | .hbm, ⟨3, _⟩ => ⟨S22016x16, .i16⟩
  | .hbm, ⟨4, _⟩ => ⟨S22016x128, .i8⟩
  | .hbm, ⟨5, _⟩ => ⟨S22016x128, .i8⟩
  | .hbm, ⟨6, _⟩ => ⟨S16x22016, .i16⟩
  | .hbm, ⟨7, _⟩ => ⟨S16x22016, .i16⟩
  | .hbm, ⟨8, _⟩ => ⟨S48x4096, .bf16⟩
  | .hbm, ⟨9, _⟩ => ⟨S48x22016, .bf16⟩
  | .local _ .vmem, ⟨0, _⟩ => ⟨S48x4096, .bf16⟩
  | .local _ .vmem, ⟨1, _⟩ => ⟨S512x2048, .i8⟩
  | .local _ .vmem, ⟨2, _⟩ => ⟨S512x2048, .i8⟩
  | .local _ .vmem, ⟨3, _⟩ => ⟨S16x512, .i16⟩
  | .local _ .vmem, ⟨4, _⟩ => ⟨S16x512, .i16⟩
  | .local _ .vmem, ⟨5, _⟩ => ⟨S16x512, .i16⟩
  | .local _ .vmem, ⟨6, _⟩ => ⟨S16x512, .i16⟩
  | .local _ .vmem, ⟨7, _⟩ => ⟨S512x128, .i8⟩
  | .local _ .vmem, ⟨8, _⟩ => ⟨S512x128, .i8⟩
  | .local _ .vmem, ⟨9, _⟩ => ⟨S512x128, .i8⟩
  | .local _ .vmem, ⟨10, _⟩ => ⟨S512x128, .i8⟩
  | .local _ .vmem, ⟨11, _⟩ => ⟨S48x512, .bf16⟩
  | .local _ .vmem, ⟨12, _⟩ => ⟨S48x512, .bf16⟩
  | .local _ .vmem, ⟨13, _⟩ => ⟨S96x8192, .bf16⟩
  | .local _ .vmem, ⟨14, _⟩ => ⟨S2x512x128, .i32⟩
  | .local _ .vmem, ⟨15, _⟩ => ⟨S2x512x128, .i32⟩
  | _, _ => ⟨S48x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S48x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S2x512x2x128 : Shape := ⟨4, ![2, 512, 2, 128]⟩
abbrev S2x512x1x128 : Shape := ⟨4, ![2, 512, 1, 128]⟩
abbrev S1x64x2x128 : Shape := ⟨4, ![1, 64, 2, 128]⟩
abbrev S1x64x1x128 : Shape := ⟨4, ![1, 64, 1, 128]⟩
abbrev S1x8x2x128 : Shape := ⟨4, ![1, 8, 2, 128]⟩
abbrev S1x8x1x128 : Shape := ⟨4, ![1, 8, 1, 128]⟩
  | .local _ .vmem, ⟨14, _⟩ => ⟨S2x512x2x128, .bf16⟩
  | .local _ .vmem, ⟨15, _⟩ => ⟨S2x512x2x128, .bf16⟩
variable {F : FTy → Type} [FloatOps F]
-- ==== ReferenceIdeal.lean ====
abbrev S48x1x4096 : Shape := ⟨3, ![48, 1, 4096]⟩
abbrev S22016x2048 : Shape := ⟨2, ![22016, 2048]⟩
abbrev S22016x16 : Shape := ⟨2, ![22016, 16]⟩
abbrev S22016x128 : Shape := ⟨2, ![22016, 128]⟩
abbrev S_ : Shape := ⟨0, ![]⟩
abbrev S22016x64x32 : Shape := ⟨3, ![22016, 64, 32]⟩
abbrev S22016x16x8 : Shape := ⟨3, ![22016, 16, 8]⟩
abbrev S22016x16x1 : Shape := ⟨3, ![22016, 16, 1]⟩
abbrev S22016x64x2 : Shape := ⟨3, ![22016, 64, 2]⟩
abbrev S22016x64x1 : Shape := ⟨3, ![22016, 64, 1]⟩
abbrev S22016x64 : Shape := ⟨2, ![22016, 64]⟩
abbrev S48x1x64x2x32 : Shape := ⟨5, ![48, 1, 64, 2, 32]⟩
abbrev S48x1x64x1x32 : Shape := ⟨5, ![48, 1, 64, 1, 32]⟩
abbrev S48x1x64x32 : Shape := ⟨4, ![48, 1, 64, 32]⟩
abbrev S48x1x22016 : Shape := ⟨3, ![48, 1, 22016]⟩
abbrev S48x22016 : Shape := ⟨2, ![48, 22016]⟩

abbrev nBuf : Space → Nat
  | .hbm => 146
  | .vmem => 0
  | .smem => 0
  | _ => 0

abbrev hbmTy0_0 (i : Nat) : BufTy := match i % 128 with
  | 0 => ⟨S48x1x4096, .bf16⟩
  | 1 => ⟨S22016x2048, .i8⟩
  | 2 => ⟨S22016x16, .i16⟩
  | 3 => ⟨S22016x16, .i16⟩
  | 4 => ⟨S22016x128, .i8⟩
  | 5 => ⟨S22016x128, .i8⟩
  | 6 => ⟨S22016x16, .i32⟩
  | 7 => ⟨S_, .i32⟩
  | 8 => ⟨S22016x16, .i32⟩
  | 9 => ⟨S22016x16, .i32⟩
  | 10 => ⟨S_, .i32⟩
  | 11 => ⟨S22016x16, .i32⟩
  | 12 => ⟨S22016x16, .i32⟩
  | 13 => ⟨S_, .i32⟩
  | 14 => ⟨S22016x16, .i32⟩
  | 15 => ⟨S22016x16, .i32⟩
  | 16 => ⟨S_, .i32⟩
  | 17 => ⟨S22016x16, .i32⟩
  | 18 => ⟨S22016x16, .i32⟩
  | 19 => ⟨S_, .i32⟩
  | 20 => ⟨S22016x16, .i32⟩
  | 21 => ⟨S22016x16, .i1⟩
  | 22 => ⟨S_, .i32⟩
  | 23 => ⟨S22016x16, .i32⟩
  | 24 => ⟨S22016x16, .i32⟩
  | 25 => ⟨S22016x16, .i32⟩
  | 26 => ⟨S22016x16, .f32⟩
  | 27 => ⟨S_, .i32⟩
  | 28 => ⟨S22016x16, .i32⟩
  | 29 => ⟨S22016x16, .i32⟩
  | 30 => ⟨S_, .i32⟩
  | 31 => ⟨S22016x16, .i32⟩
  | 32 => ⟨S22016x16, .i32⟩
  | 33 => ⟨S22016x16, .f32⟩
  | 34 => ⟨S_, .f32⟩
  | 35 => ⟨S22016x16, .f32⟩
  | 36 => ⟨S22016x16, .f32⟩
  | 37 => ⟨S_, .i32⟩
  | 38 => ⟨S22016x16, .i32⟩
  | 39 => ⟨S22016x16, .i1⟩
  | 40 => ⟨S_, .f32⟩
  | 41 => ⟨S_, .f32⟩
  | 42 => ⟨S22016x16, .f32⟩
  | 43 => ⟨S22016x16, .f32⟩
  | 44 => ⟨S22016x16, .f32⟩
  | 45 => ⟨S22016x16, .f32⟩
  | 46 => ⟨S22016x16, .f32⟩
  | 47 => ⟨S22016x16, .f32⟩
  | 48 => ⟨S22016x16, .i32⟩
  | 49 => ⟨S_, .i32⟩
  | 50 => ⟨S22016x16, .i32⟩
  | 51 => ⟨S22016x16, .i32⟩
  | 52 => ⟨S_, .i32⟩
  | 53 => ⟨S22016x16, .i32⟩
  | 54 => ⟨S22016x16, .i32⟩
  | 55 => ⟨S_, .i32⟩
  | 56 => ⟨S22016x16, .i32⟩
  | 57 => ⟨S22016x16, .i32⟩
  | 58 => ⟨S_, .i32⟩
  | 59 => ⟨S22016x16, .i32⟩
  | 60 => ⟨S22016x16, .i32⟩
  | 61 => ⟨S_, .i32⟩
  | 62 => ⟨S22016x16, .i32⟩
  | 63 => ⟨S22016x16, .i1⟩
  | 64 => ⟨S_, .i32⟩
  | 65 => ⟨S22016x16, .i32⟩
  | 66 => ⟨S22016x16, .i32⟩
  | 67 => ⟨S22016x16, .i32⟩
  | 68 => ⟨S22016x16, .f32⟩
  | 69 => ⟨S_, .i32⟩
  | 70 => ⟨S22016x16, .i32⟩
  | 71 => ⟨S22016x16, .i32⟩
  | 72 => ⟨S_, .i32⟩
  | 73 => ⟨S22016x16, .i32⟩
  | 74 => ⟨S22016x16, .i32⟩
  | 75 => ⟨S22016x16, .f32⟩
  | 76 => ⟨S_, .f32⟩
  | 77 => ⟨S22016x16, .f32⟩
  | 78 => ⟨S22016x16, .f32⟩
  | 79 => ⟨S_, .i32⟩
  | 80 => ⟨S22016x16, .i32⟩
  | 81 => ⟨S22016x16, .i1⟩
  | 82 => ⟨S_, .f32⟩
  | 83 => ⟨S_, .f32⟩
  | 84 => ⟨S22016x16, .f32⟩
  | 85 => ⟨S22016x16, .f32⟩
  | 86 => ⟨S22016x16, .f32⟩
  | 87 => ⟨S22016x16, .f32⟩
  | 88 => ⟨S22016x16, .f32⟩
  | 89 => ⟨S22016x16, .f32⟩
  | 90 => ⟨S22016x64x32, .i8⟩
  | 91 => ⟨S22016x64x32, .i32⟩
  | 92 => ⟨S_, .i32⟩
  | 93 => ⟨S22016x64x32, .i32⟩
  | 94 => ⟨S22016x64x32, .i32⟩
  | 95 => ⟨S22016x64x32, .bf16⟩
  | 96 => ⟨S_, .i32⟩
  | 97 => ⟨S22016x64x32, .i32⟩
  | 98 => ⟨S22016x64x32, .i32⟩
  | 99 => ⟨S22016x64x32, .bf16⟩
  | 100 => ⟨S22016x16x8, .i8⟩
  | 101 => ⟨S22016x16x8, .i32⟩
  | 102 => ⟨S22016x16x8, .f32⟩
  | 103 => ⟨S22016x16x8, .i8⟩
  | 104 => ⟨S22016x16x8, .i32⟩
  | 105 => ⟨S22016x16x8, .f32⟩
  | 106 => ⟨S22016x16x1, .f32⟩
  | 107 => ⟨S22016x16x8, .f32⟩
  | 108 => ⟨S22016x16x8, .f32⟩
  | 109 => ⟨S22016x16x8, .bf16⟩
  | 110 => ⟨S22016x64x2, .bf16⟩
  | 111 => ⟨S22016x16x1, .f32⟩
  | 112 => ⟨S22016x16x8, .f32⟩
  | 113 => ⟨S22016x16x8, .f32⟩
  | 114 => ⟨S22016x16x8, .bf16⟩
  | 115 => ⟨S22016x64x2, .bf16⟩
  | 116 => ⟨S22016x64x1, .bf16⟩
  | 117 => ⟨S22016x64, .bf16⟩
  | 118 => ⟨S22016x64x1, .bf16⟩
  | 119 => ⟨S22016x64x32, .bf16⟩
  | 120 => ⟨S22016x64x32, .bf16⟩
  | 121 => ⟨S22016x64x1, .bf16⟩
  | 122 => ⟨S22016x64, .bf16⟩
  | 123 => ⟨S22016x64x1, .bf16⟩
  | 124 => ⟨S22016x64x32, .bf16⟩
  | 125 => ⟨S22016x64x32, .bf16⟩
  | 126 => ⟨S22016x64x1, .bf16⟩
  | 127 => ⟨S22016x64, .bf16⟩
  | _ => ⟨S48x1x4096, .bf16⟩

abbrev hbmTy0_1 (i : Nat) : BufTy := match i % 128 with
  | 0 => ⟨S22016x64x1, .bf16⟩
  | 1 => ⟨S22016x64x32, .bf16⟩
  | 2 => ⟨S22016x64x32, .bf16⟩
  | 3 => ⟨S22016x64x1, .bf16⟩
  | 4 => ⟨S22016x64, .bf16⟩
  | 5 => ⟨S22016x64x1, .bf16⟩
  | 6 => ⟨S22016x64x32, .bf16⟩
  | 7 => ⟨S22016x64x32, .bf16⟩
  | 8 => ⟨S48x1x64x2x32, .bf16⟩
  | 9 => ⟨S48x1x64x1x32, .bf16⟩
  | 10 => ⟨S48x1x64x32, .bf16⟩
  | 11 => ⟨S48x1x22016, .f32⟩
  | 12 => ⟨S48x1x64x1x32, .bf16⟩
  | 13 => ⟨S48x1x64x32, .bf16⟩
  | 14 => ⟨S48x1x22016, .f32⟩
  | 15 => ⟨S48x1x22016, .f32⟩
  | 16 => ⟨S48x1x22016, .bf16⟩
  | 17 => ⟨S48x22016, .bf16⟩
  | _ => ⟨S48x1x4096, .bf16⟩

abbrev hbmTy (i : Nat) : BufTy := match i / 128 with
  | 0 => hbmTy0_0 i
  | 1 => hbmTy0_1 i
  | _ => ⟨S48x1x4096, .bf16⟩

abbrev bufTy : (tb : Table) → Fin (tcTables nBuf tb) → BufTy
  | .hbm, ⟨i, _⟩ => hbmTy i
  | _, _ => ⟨S48x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_c_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_c_7 : Ref sig .tc := ⟨.hbm, 37, rfl⟩
abbrev main_v22 : Ref sig .tc := ⟨.hbm, 38, rfl⟩
abbrev main_v23 : Ref sig .tc := ⟨.hbm, 39, rfl⟩
abbrev main_cst_8 : Ref sig .tc := ⟨.hbm, 40, rfl⟩
abbrev main_cst_9 : Ref sig .tc := ⟨.hbm, 41, rfl⟩
abbrev main_call1_v0 : Ref sig .tc := ⟨.hbm, 42, rfl⟩
abbrev main_call1_v1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_10 : Ref sig .tc := ⟨.hbm, 49, rfl⟩
abbrev main_v29 : Ref sig .tc := ⟨.hbm, 50, rfl⟩
abbrev main_v30 : Ref sig .tc := ⟨.hbm, 51, rfl⟩
abbrev main_c_11 : Ref sig .tc := ⟨.hbm, 52, rfl⟩
abbrev main_v31 : Ref sig .tc := ⟨.hbm, 53, rfl⟩
abbrev main_v32 : Ref sig .tc := ⟨.hbm, 54, rfl⟩
abbrev main_c_12 : Ref sig .tc := ⟨.hbm, 55, rfl⟩
abbrev main_v33 : Ref sig .tc := ⟨.hbm, 56, rfl⟩
abbrev main_v34 : Ref sig .tc := ⟨.hbm, 57, rfl⟩
abbrev main_c_13 : Ref sig .tc := ⟨.hbm, 58, rfl⟩
abbrev main_v35 : Ref sig .tc := ⟨.hbm, 59, rfl⟩
abbrev main_v36 : Ref sig .tc := ⟨.hbm, 60, rfl⟩
abbrev main_c_14 : Ref sig .tc := ⟨.hbm, 61, rfl⟩
abbrev main_v37 : Ref sig .tc := ⟨.hbm, 62, rfl⟩
abbrev main_v38 : Ref sig .tc := ⟨.hbm, 63, rfl⟩
abbrev main_c_15 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_16 : Ref sig .tc := ⟨.hbm, 69, rfl⟩
abbrev main_v43 : Ref sig .tc := ⟨.hbm, 70, rfl⟩
abbrev main_v44 : Ref sig .tc := ⟨.hbm, 71, rfl⟩
abbrev main_c_17 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_18 : Ref sig .tc := ⟨.hbm, 76, rfl⟩
abbrev main_v48 : Ref sig .tc := ⟨.hbm, 77, rfl⟩
abbrev main_v49 : Ref sig .tc := ⟨.hbm, 78, rfl⟩
abbrev main_c_19 : Ref sig .tc := ⟨.hbm, 79, rfl⟩
abbrev main_v50 : Ref sig .tc := ⟨.hbm, 80, rfl⟩
abbrev main_v51 : Ref sig .tc := ⟨.hbm, 81, rfl⟩
abbrev main_cst_20 : Ref sig .tc := ⟨.hbm, 82, rfl⟩
abbrev main_cst_21 : Ref sig .tc := ⟨.hbm, 83, rfl⟩
abbrev main_call3_v0 : Ref sig .tc := ⟨.hbm, 84, rfl⟩
abbrev main_call3_v1 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_22 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_23 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩

abbrev nD : Nat := 1
abbrev τ : Topo := Topo.v7x

variable {F : FTy → Type} [FloatOps F]
-- ==== Proof.Block.lean ====
/-
  What one grid point computes: the operations of the kernel's body on the blocks it loads, written once as definitions
  with the repeated parts as functions of their position.
-/
module

public import proofs.«01_k».proof.Proof.Gen.KernelIdeal.Value
public import Idealize.ShloMosaic.Lib.Pipeline.ValueKit
public import Idealize.ShloMosaic.Lib.StableHlo.Run

@[expose] public section

noncomputable section

open Idealize.ShloMosaic Idealize.ShloMosaic.TcCoe Idealize.SL.Sem

namespace Cert.KernelIdeal.Block
open Cert.KernelIdeal Cert.KernelIdeal.Gen

/-- The [64, 256] array of 32-bit words that a transposed [512, 128] array of bytes is read as. -/
abbrev Words := IVec S64x256 32
/-- A buffer of scales: for each lane half, 512 rows of pairs of numbers, 128 lanes. -/
abbrev Scr := Vec Ideal S2x512x2x128 .bf16

/-- The bytes of a [512, 128] column block, transposed into 32-bit words. -/
def words (v : Vec Ideal S512x128 .i8) : Words :=
  bitcast S64x256 32 (transpose S128x256 [1, 0] (bitcast S256x128 16 (bitcast S128x128 32 v bitcasts_S512x128_w8_S128x128_w32)
    bitcasts_S128x128_w32_S256x128_w16) transposes_S256x128_p1_0_S128x256) bitcasts_S128x256_w16_S64x256_w32

/-- The four bits of every word from bit `s` on, with a unit axis in the middle. -/
def nib (w : Words) (s : BitVec 32) : IVec S64x1x256 32 :=
  shapeCast S64x1x256 (andi (shrui w (broadcast S64x256 s)) (broadcast S64x256 15#32)) shapeCasts_S64x256_S64x1x256

/-- The 4-bit codes: word row `i` gives rows `8 i … 8 i + 7`, lowest bits first, as numbers. -/
def codes (w : Words) : FVec Ideal S512x256 .bf16 :=
  sitofp .bf16 (shapeCast S512x256 (concatenate S64x8x256 1 [⟨S64x1x256, nib w 0#32⟩, ⟨S64x1x256, nib w 4#32⟩,
    ⟨S64x1x256, nib w 8#32⟩, ⟨S64x1x256, nib w 12#32⟩, ⟨S64x1x256, nib w 16#32⟩, ⟨S64x1x256, nib w 20#32⟩,
    ⟨S64x1x256, nib w 24#32⟩, ⟨S64x1x256, nib w 28#32⟩]
    concatenates_S64x1x256_S64x1x256_S64x1x256_S64x1x256_S64x1x256_S64x1x256_S64x1x256_S64x1x256_S64x8x256_d1) shapeCasts_S64x8x256_S512x256)

/-- Rows `8·gg … 8·gg + 7` of one lane half of a scale buffer. -/
def ldScale (S : Scr) (c : Fin 2) (gg : Fin 64) : Vec Ideal S1x8x2x128 .bf16 :=
  View.ld S (Rect.unit ![c.val, 8 * gg.val, 0, 0] ![1, 8, 2, 128] fun a => by
    match a with
    | ⟨0, _⟩ => show c.val + 1 ≤ 2; omega
    | ⟨1, _⟩ => show 8 * gg.val + 8 ≤ 512; omega
    | ⟨2, _⟩ => show 0 + 2 ≤ 2; omega
    | ⟨3, _⟩ => show 0 + 128 ≤ 128; omega)

/-- One number of each pair of the eight loaded rows. -/
def half (p : Fin 2) (v : Vec Ideal S1x8x2x128 .bf16) : FVec Ideal S8x128 .bf16 :=
  shapeCast S8x128 (shapeCast S1x8x128 (rowsOfParity p S1x8x1x128 v bitcasts_S1x8x2x128_w16_S1x8x1x128_w32) shapeCasts_S1x8x1x128_S1x8x128) shapeCasts_S1x8x128_S8x128

/-- The sixteen rows of scales of group pair `gg`: the pairs of its eight rows, one below the other. -/
def tileRows (S : Scr) (gg : Fin 64) : FVec Ideal S16x256 .bf16 :=
  interleaveRows S16x256
    (concatenate S8x256 1 [⟨S8x128, half 0 (ldScale S 0 gg)⟩, ⟨S8x128, half 0 (ldScale S 1 gg)⟩] concatenates_S8x128_S8x128_S8x256_d1)
    (concatenate S8x256 1 [⟨S8x128, half 1 (ldScale S 0 gg)⟩, ⟨S8x128, half 1 (ldScale S 1 gg)⟩] concatenates_S8x128_S8x128_S8x256_d1)
    bitcasts_S16x256_w16_S8x256_w32

/-- Sixteen rows of weights: codes times scales minus offsets. -/
def strip (q : FVec Ideal S512x256 .bf16) (S M : Scr) (gg : Fin 64) (o : ℕ) (h : S512x256.Slices ![o, 0] S16x256) : FVec Ideal S16x256 .bf16 :=
  subf (mulf (extractStridedSlice S16x256 ![o, 0] q h) (tileRows S gg)) (tileRows M gg)

/-- Sixteen rows from row `o` on lie inside the codes. -/
theorem slices16 (o : ℕ) (h : o + 16 ≤ 512) : S512x256.Slices ![o, 0] S16x256 :=
  ⟨rfl, fun a => by
    match a with
    | ⟨0, _⟩ => exact h
    | ⟨1, _⟩ => show 0 + 256 ≤ 256; omega⟩

/-- The strip of 16 weights rows: code rows from `256·h + 128·g + 16·j`, scale pair `2·tt + g`. -/
def stripAt (q : FVec Ideal S512x256 .bf16) (S M : Scr) (tt : Fin 32) (g : Fin 2) (j : Fin 8) : FVec Ideal S16x256 .bf16 :=
  strip q S M ⟨2 * tt.val + g.val, by omega⟩ (256 * (tt.val % 2) + 128 * g.val + 16 * j.val) (slices16 _ (by omega))

/-- The [256, 256] tile of weights of step `tt`, made of sixteen strips. -/
def weights (q : FVec Ideal S512x256 .bf16) (S M : Scr) (tt : Fin 32) : FVec Ideal S256x256 .bf16 :=
  concatenate S256x256 0 [⟨S16x256, stripAt q S M tt 0 0⟩, ⟨S16x256, stripAt q S M tt 0 1⟩, ⟨S16x256, stripAt q S M tt 0 2⟩,
    ⟨S16x256, stripAt q S M tt 0 3⟩, ⟨S16x256, stripAt q S M tt 0 4⟩, ⟨S16x256, stripAt q S M tt 0 5⟩,
    ⟨S16x256, stripAt q S M tt 0 6⟩, ⟨S16x256, stripAt q S M tt 0 7⟩, ⟨S16x256, stripAt q S M tt 1 0⟩,
    ⟨S16x256, stripAt q S M tt 1 1⟩, ⟨S16x256, stripAt q S M tt 1 2⟩, ⟨S16x256, stripAt q S M tt 1 3⟩,
    ⟨S16x256, stripAt q S M tt 1 4⟩, ⟨S16x256, stripAt q S M tt 1 5⟩, ⟨S16x256, stripAt q S M tt 1 6⟩,
    ⟨S16x256, stripAt q S M tt 1 7⟩]
    concatenates_S16x256_S16x256_S16x256_S16x256_S16x256_S16x256_S16x256_S16x256_S16x256_S16x256_S16x256_S16x256_S16x256_S16x256_S16x256_S16x256_S256x256_d0

/-- Columns `128 t … 128 t + 127` of the block of code bytes. -/
def ldCodes (Q : Vec Ideal S512x2048 .i8) (t : Fin 16) : Vec Ideal S512x128 .i8 :=
  View.ld Q (Rect.unit ![0, 128 * t.val] ![512, 128] fun a => by
    match a with
    | ⟨0, _⟩ => show 0 + 512 ≤ 512; omega
    | ⟨1, _⟩ => show 128 * t.val + 128 ≤ 2048; omega)

/-- Columns `256 tt … 256 tt + 255` of the spread input. -/
def ldX (X : Vec Ideal S96x8192 .bf16) (tt : Fin 32) : FVec Ideal S96x256 .bf16 :=
  View.ld X (Rect.unit ![0, 256 * tt.val] ![96, 256] fun a => by
    match a with
    | ⟨0, _⟩ => show 0 + 96 ≤ 96; omega
    | ⟨1, _⟩ => show 256 * tt.val + 256 ≤ 8192; omega)

/-- What step `tt` adds: its columns of the spread input times its tile of weights. -/
def product (Q : Vec Ideal S512x2048 .i8) (X : Vec Ideal S96x8192 .bf16) (S M : Scr) (tt : Fin 32) : FVec Ideal S96x256 .f32 :=
  matmul dot_S96x256_S256x256_S96x256_1_0_0_1_n_n none (ldX X tt) (weights (codes (words (ldCodes Q ⟨tt.val / 2, by omega⟩))) S M tt)
    (constant S96x256 .f32 0x00000000#32)

/-- The accumulator after `n` steps. -/
def accTo (Q : Vec Ideal S512x2048 .i8) (X : Vec Ideal S96x8192 .bf16) (S M : Scr) : (n : ℕ) → n ≤ 32 → FVec Ideal S96x256 .f32
  | 0, _ => broadcast S96x256 (Scalar.ofBits .f32 0x00000000#32)
  | n + 1, h => addf (accTo Q X S M n (by omega)) (product Q X S M ⟨n, by omega⟩)

/-- The lane each output lane reads: half its own number, plus `a`. -/
def lanes (a : BitVec 32) : IVec S48x128 32 :=
  addi (shrsi (iota .tc S48x128 32 [1] iota_S48x128_d1_w32) (broadcast S48x128 1#32)) (broadcast S48x128 a)

/-- The lanes of `v` gathered at `lanes a`. -/
def pick (v : FVec Ideal S48x128 .f32) (a : BitVec 32) : FVec Ideal S48x128 .f32 :=
  dynamicGather 1 v (shapeCast S48x128 (shapeCast S48x128x1 (select (cmpi .slt (lanes a) (broadcast S48x128 0#32))
    (addi (lanes a) (broadcast S48x128 128#32)) (lanes a)) shapeCasts_S48x128_S48x128x1) shapeCasts_S48x128x1_S48x128)

/-- 128 columns of the output: even lanes from the upper 48 rows of the accumulator, odd lanes from the lower 48. -/
def out (acc : FVec Ideal S96x256 .f32) (o : ℕ) (h : S48x256.Slices ![0, o] S48x128) (a : BitVec 32) : FVec Ideal S48x128 .bf16 :=
  truncf .bf16 (select (cmpi .eq (andi (iota .tc S48x128 32 [1] iota_S48x128_d1_w32) (broadcast S48x128 1#32)) (broadcast S48x128 0#32))
    (pick (extractStridedSlice S48x128 ![0, o] (extf .f32 (truncf .bf16 (extractStridedSlice S48x256 ![0, 0] acc slices_S96x256_o0_0_S48x256) bitsLt_bf16_f32) bitsLt_bf16_f32) h) a)
    (pick (extractStridedSlice S48x128 ![0, o] (extf .f32 (truncf .bf16 (extractStridedSlice S48x256 ![48, 0] acc slices_S96x256_o48_0_S48x256) bitsLt_bf16_f32) bitsLt_bf16_f32) h) a)) bitsLt_bf16_f32

/-- The four stores of the output block, last store first. -/
def pieces (acc : FVec Ideal S96x256 .f32) : List (View.Piece (Elt Ideal) S48x512 .bf16) :=
  [⟨Rect.unit ![0, 384] ![48, 128] inb_S48x512_S48x128_0_384, out acc 128 slices_S48x256_o0_128_S48x128 64#32⟩,
   ⟨Rect.unit ![0, 256] ![48, 128] inb_S48x512_S48x128_0_256, out acc 128 slices_S48x256_o0_128_S48x128 0#32⟩,
   ⟨Rect.unit ![0, 128] ![48, 128] inb_S48x512_S48x128_0_128, out acc 0 slices_S48x256_o0_0_S48x128 64#32⟩,
   ⟨Rect.unit ![0, 0] ![48, 128] inb_S48x512_S48x128_0_0, out acc 0 slices_S48x256_o0_0_S48x128 0#32⟩]

/-- The lane number, on 8 rows. -/
def lane8 : IVec S8x128 32 := iota .tc S8x128 32 [1] iota_S8x128_d1_w32

/-- The lane each lane reads when every second column is taken: `(2 lane + p)` modulo 128. -/
def idx8 (p : BitVec 32) : IVec S8x128 32 :=
  andi (addi (muli (broadcast S8x128 2#32) lane8) (broadcast S8x128 p)) (broadcast S8x128 127#32)

/-- The lanes of `v` gathered at `idx8 p`. -/
def pick8 (p : BitVec 32) (v : IVec S8x128 32) : IVec S8x128 32 :=
  dynamicGather 1 v (shapeCast S8x128 (shapeCast S8x128x1 (select (cmpi .slt (idx8 p) (broadcast S8x128 0#32))
    (addi (idx8 p) (broadcast S8x128 128#32)) (idx8 p)) shapeCasts_S8x128_S8x128x1) shapeCasts_S8x128x1_S8x128)

/-- Two neighbouring rows of 16-bit patterns as one row of 32-bit words. -/
def dWords (D : Vec Ideal S16x512 .i16) : IVec S8x512 32 :=
  bitcast S8x512 32 (shapeCast S16x512 D shapeCasts_S16x512_S16x512) bitcasts_S16x512_w16_S8x512_w32

/-- Every second column of the words, starting at column `p`. -/
def alternate (p : BitVec 32) (D : Vec Ideal S16x512 .i16) : IVec S8x256 32 :=
  concatenate S8x256 1 [⟨S8x128, select (cmpi .slt lane8 (broadcast S8x128 64#32))
      (pick8 p (extractStridedSlice S8x128 ![0, 0] (dWords D) slices_S8x512_o0_0_S8x128))
      (pick8 p (extractStridedSlice S8x128 ![0, 128] (dWords D) slices_S8x512_o0_128_S8x128))⟩,
    ⟨S8x128, select (cmpi .slt lane8 (broadcast S8x128 64#32))
      (pick8 p (extractStridedSlice S8x128 ![0, 256] (dWords D) slices_S8x512_o0_256_S8x128))
      (pick8 p (extractStridedSlice S8x128 ![0, 384] (dWords D) slices_S8x512_o0_384_S8x128))⟩]
    concatenates_S8x128_S8x128_S8x256_d1

/-- The number that the 15 low bits of a half-precision pattern denote. -/
def magnitude (em : IVec S8x256 32) : FVec Ideal S8x256 .f32 :=
  select (cmpi .ult em (broadcast S8x256 1024#32))
    (mulf (sitofp .f32 em) (broadcast S8x256 (Scalar.ofBits .f32 0x33800000#32)))
    (bitcastToFloat .f32 (addi (shli em (broadcast S8x256 13#32)) (broadcast S8x256 939524096#32)))

/-- The number that a half-precision pattern denotes. -/
def decode (h : IVec S8x256 32) : FVec Ideal S8x256 .f32 :=
  select (cmpi .ne (andi h (broadcast S8x256 32768#32)) (broadcast S8x256 0#32))
    (subf (broadcast S8x256 (Scalar.ofBits .f32 0x00000000#32)) (magnitude (andi h (broadcast S8x256 32767#32))))
    (magnitude (andi h (broadcast S8x256 32767#32)))

/-- The super-block scales, one row for each of the 64 groups: four neighbouring groups have the same one. -/
def supers (w : IVec S8x256 32) : FVec Ideal S64x256 .f32 :=
  shapeCast S64x256 (broadcastTo S16x4x256 (shapeCast S16x1x256 (shapeCast S16x1x256 (shapeCast S16x256
    (concatenate S8x2x256 1 [⟨S8x1x256, shapeCast S8x1x256 (decode (andi w (broadcast S8x256 65535#32))) shapeCasts_S8x256_S8x1x256⟩,
      ⟨S8x1x256, shapeCast S8x1x256 (decode (shrui w (broadcast S8x256 16#32))) shapeCasts_S8x256_S8x1x256⟩]
      concatenates_S8x1x256_S8x1x256_S8x2x256_d1) shapeCasts_S8x2x256_S16x256) shapeCasts_S16x256_S16x1x256)
    shapeCasts_S16x1x256_S16x1x256) broadcasts_S16x1x256_S16x4x256) shapeCasts_S16x4x256_S64x256

/-- Scale code byte times super-block scale. -/
def scaleOf (w : Words) (s : BitVec 32) (d : FVec Ideal S64x256 .f32) : FVec Ideal S64x256 .bf16 :=
  truncf .bf16 (mulf (sitofp .f32 (andi (shrui w (broadcast S64x256 s)) (broadcast S64x256 255#32))) d) bitsLt_bf16_f32

/-- 128 of the 256 lanes, in the shape of a store. -/
def laneHalf (v : FVec Ideal S64x256 .bf16) (c : Fin 2) : FVec Ideal S1x64x1x128 .bf16 :=
  shapeCast S1x64x1x128 (shapeCast S1x64x128 (extractStridedSlice S64x128 ![0, 128 * c.val] v ⟨rfl, fun a => by
    match a with
    | ⟨0, _⟩ => show 0 + 64 ≤ 64; omega
    | ⟨1, _⟩ => show 128 * c.val + 128 ≤ 256; omega⟩) shapeCasts_S64x128_S1x64x128) shapeCasts_S1x64x128_S1x64x1x128

/-- Every eighth row of a buffer of scales from row `r` on, in lane half `c`. -/
def rowRect (c : Fin 2) (r : Fin 8) : Rect S2x512x2x128 where
  off := ![c.val, r.val, 0, 0]
  size := ![1, 64, 2, 128]
  stride := ![1, 8, 1, 1]
  inb a := by
    match a with
    | ⟨0, _⟩ => exact Or.inr (show c.val + 1 * (1 - 1) < 2 by omega)
    | ⟨1, _⟩ => exact Or.inr (show r.val + 8 * (64 - 1) < 512 by omega)
    | ⟨2, _⟩ => exact Or.inr (show 0 + 1 * (2 - 1) < 2 by omega)
    | ⟨3, _⟩ => exact Or.inr (show 0 + 1 * (128 - 1) < 128 by omega)
  stride_pos a := by
    match a with
    | ⟨0, _⟩ => exact Nat.one_pos
    | ⟨1, _⟩ => show 0 < 8; omega
    | ⟨2, _⟩ => exact Nat.one_pos
    | ⟨3, _⟩ => exact Nat.one_pos

/-- One store into a buffer of scales: the pairs of output columns of parity `par`, to every eighth row from row `r` on. -/
def scalePiece (C : Vec Ideal S512x128 .i8) (D : Vec Ideal S16x512 .i16) (par : Fin 2) (r : Fin 8) (c : Fin 2) :
    View.Piece (Elt Ideal) S2x512x2x128 .bf16 :=
  ⟨rowRect c r, interleaveRows S1x64x2x128
    (laneHalf (scaleOf (words C) (BitVec.ofNat 32 (8 * par.val)) (supers (alternate (BitVec.ofNat 32 par.val) D))) c)
    (laneHalf (scaleOf (words C) (BitVec.ofNat 32 (16 + 8 * par.val)) (supers (alternate (BitVec.ofNat 32 par.val) D))) c)
    bitcasts_S1x64x2x128_w16_S1x64x1x128_w32⟩

/-- The first `n` stores into a buffer of scales, last store first. -/
def scalePieces (C : Vec Ideal S512x128 .i8) (D : Vec Ideal S16x512 .i16) : (n : ℕ) → n ≤ 16 → List (View.Piece (Elt Ideal) S2x512x2x128 .bf16)
  | 0, _ => []
  | n + 1, h => scalePiece C D ⟨n / 8, by omega⟩ ⟨n / 8 + 2 * (n % 8 / 2), by omega⟩ ⟨n % 2, by omega⟩ :: scalePieces C D n (by omega)

/-- A filled buffer of scales. -/
def scales (C : Vec Ideal S512x128 .i8) (D : Vec Ideal S16x512 .i16) : Scr := View.canon (scalePieces C D 16 le_rfl)

/-- The column number. -/
def colNo : IVec S128x256 32 := iota .tc S128x256 32 [1] iota_S128x256_d1_w32

/-- The byte that a column of a weight tile comes from. -/
def byteCol : IVec S128x256 32 := shrsi colNo (broadcast S128x256 2#32)

/-- The input row that a column of a weight tile meets. -/
def source : IVec S128x256 32 :=
  addi (addi (shli (shrsi byteCol (broadcast S128x256 5#32)) (broadcast S128x256 6#32)) (andi byteCol (broadcast S128x256 31#32)))
    (shli (andi colNo (broadcast S128x256 1#32)) (broadcast S128x256 5#32))

/-- The 0/1 matrix that sends input columns to the columns of parity `p` of a weight tile. -/
def select01 (p : BitVec 32) : FVec Ideal S128x256 .bf16 :=
  truncf .bf16 (sitofp .f32 (extui 32 (andi (cmpi .eq (iota .tc S128x256 32 [0] iota_S128x256_d0_w32) source)
    (cmpi .eq (andi (shrsi colNo (broadcast S128x256 1#32)) (broadcast S128x256 1#32)) (broadcast S128x256 p))) natLt_1_32)) bitsLt_bf16_f32

/-- Columns `128 t … 128 t + 127` of the input. -/
def ldIn (x : Vec Ideal S48x4096 .bf16) (t : Fin 32) : FVec Ideal S48x128 .bf16 :=
  View.ld x (Rect.unit ![0, 128 * t.val] ![48, 128] fun a => by
    match a with
    | ⟨0, _⟩ => show 0 + 48 ≤ 48; omega
    | ⟨1, _⟩ => show 128 * t.val + 128 ≤ 4096; omega)

/-- Where the spread input of parity `p` and column block `t` lies. -/
def xRect (p : Fin 2) (t : Fin 32) : Rect S96x8192 :=
  Rect.unit ![48 * p.val, 256 * t.val] ![48, 256] fun a => by
    match a with
    | ⟨0, _⟩ => show 48 * p.val + 48 ≤ 96; omega
    | ⟨1, _⟩ => show 256 * t.val + 256 ≤ 8192; omega

/-- One store of the spread input: 128 input columns times the 0/1 matrix. -/
def xPiece (x : Vec Ideal S48x4096 .bf16) (p : Fin 2) (t : Fin 32) : View.Piece (Elt Ideal) S96x8192 .bf16 :=
  ⟨xRect p t, shapeCast S48x256 (truncf .bf16 (matmul dot_S48x128_S128x256_S48x256_1_0_0_1_n_n none
    (shapeCast S48x128 (ldIn x t) shapeCasts_S48x128_S48x128) (select01 (BitVec.ofNat 32 p.val))
    (constant S48x256 .f32 0x00000000#32)) bitsLt_bf16_f32) shapeCasts_S48x256_S48x256⟩

/-- The first `n` stores of the spread input, last store first. -/
def xPieces (x : Vec Ideal S48x4096 .bf16) : (n : ℕ) → n ≤ 64 → List (View.Piece (Elt Ideal) S96x8192 .bf16)
  | 0, _ => []
  | n + 1, h => xPiece x ⟨n / 32, by omega⟩ ⟨n % 32, by omega⟩ :: xPieces x n (by omega)

/-- The spread input: rows `48 p …` hold the input at the columns of parity `p` and zero elsewhere. -/
def spread (x : Vec Ideal S48x4096 .bf16) : Vec Ideal S96x8192 .bf16 := View.canon (xPieces x 64 le_rfl)

/-- The output block of one grid point. -/
def result (Q : Vec Ideal S512x2048 .i8) (X : Vec Ideal S96x8192 .bf16) (D D' : Vec Ideal S16x512 .i16) (C C' : Vec Ideal S512x128 .i8) :
    Vec Ideal S48x512 .bf16 :=
  View.canon (pieces (accTo Q X (scales C D) (scales C' D') 32 le_rfl))

end Cert.KernelIdeal.Block

end
-- ==== Proof.BlockRun.lean ====
/-
  The kernel's body, at the first grid point and at the later ones, computes `Block.result`; the first also leaves
  `Block.spread` in the scratch buffer that later points read.
-/
module

public import proofs.«01_k».proof.Proof.Block

@[expose] public section

set_option maxRecDepth 65536
set_option maxHeartbeats 400000

noncomputable section

open Idealize.ShloMosaic Idealize.ShloMosaic.TcCoe Idealize.SL.Sem

namespace Cert.KernelIdeal.Value
open Cert.KernelIdeal Cert.KernelIdeal.Gen ValueKit.Tiles
/-- A load is the array read at the loaded place. -/
theorem ld_fun {Val : EltTy → Type} {S : Shape} {e : EltTy} (X : S.Idx → Val e) (r : Rect S) : View.ld X r = fun j => X (r.idx j) := rfl
/-- Any later grid point: the output block, from the input spread by the first. -/
theorem out_B (c : Dev nD) (i : grid0.Coords) (arg1 : Memref sig .tc .vmem S48x4096 .bf16) (harg1 : arg1.IsWhole) (arg2 : Memref sig .tc .vmem S512x2048 .i8) (harg2 : arg2.IsWhole) (arg3 : Memref sig .tc .vmem S16x512 .i16) (harg3 : arg3.IsWhole) (arg4 : Memref sig .tc .vmem S16x512 .i16) (harg4 : arg4.IsWhole) (arg5 : Memref sig .tc .vmem S512x128 .i8) (harg5 : arg5.IsWhole) (arg6 : Memref sig .tc .vmem S512x128 .i8) (harg6 : arg6.IsWhole) (arg7 : Memref sig .tc .vmem S48x512 .bf16) (harg7 : arg7.IsWhole) (arg8 : Memref sig .tc .vmem S96x8192 .bf16) (harg8 : arg8.IsWhole) (arg9 : Memref sig .tc .vmem S2x512x2x128 .bf16) (harg9 : arg9.IsWhole) (arg10 : Memref sig .tc .vmem S2x512x2x128 .bf16) (harg10 : arg10.IsWhole) (hc0 : ¬cond0_0 i) (x0 : Vec Ideal S48x4096 .bf16) (x1 : Vec Ideal S512x2048 .i8) (x2 : Vec Ideal S16x512 .i16) (x3 : Vec Ideal S16x512 .i16) (x4 : Vec Ideal S512x128 .i8) (x5 : Vec Ideal S512x128 .i8) (xs0 : Vec Ideal S96x8192 .bf16) :
    out0_B_6 c i arg1 harg1 arg2 harg2 arg3 harg3 arg4 harg4 arg5 harg5 arg6 harg6 arg7 harg7 arg8 harg8 arg9 harg9 arg10 harg10 hc0 x0 x1 x2 x3 x4 x5 xs0 = Block.result x1 xs0 x2 x3 x4 x5 := by
  frame_open
  simp (disch := decide) only [Proc.kind, View.read_writes_junk_eq_canon, View.readCov_eq_canon', View.readAt_eq_ld, Memref.IsWhole.read_unread, View.ld_unit_lit', StableHlo.readPieces]
  open_payloads_core
  simp only [Block.result, Block.spread, Block.xPieces, Block.xPiece, Block.xRect, Block.ldIn, Block.select01, Block.source, Block.byteCol, Block.colNo, Block.pieces, Block.out, Block.pick, Block.lanes, Block.accTo, Block.product, Block.weights, Block.stripAt, Block.strip, Block.tileRows, Block.half, Block.ldScale, Block.ldX, Block.ldCodes, Block.codes, Block.nib, Block.words, Block.scales, Block.scalePieces, Block.scalePiece, Block.laneHalf, Block.rowRect, Block.scaleOf, Block.supers, Block.decode, Block.magnitude, Block.alternate, Block.dWords, Block.pick8, Block.idx8, Block.lane8, ld_fun, Fin.val_zero, Fin.val_one, Fin.coe_ofNat_eq_mod, Nat.zero_mod, Nat.mul_zero, Nat.add_zero, Nat.zero_add, Nat.zero_div, Nat.reduceMul, Nat.reduceAdd, Nat.reduceDiv, Nat.reduceMod]

/-- The first grid point leaves the spread input in its scratch buffer. -/
theorem sout_A (c : Dev nD) (i : grid0.Coords) (arg1 : Memref sig .tc .vmem S48x4096 .bf16) (harg1 : arg1.IsWhole) (arg2 : Memref sig .tc .vmem S512x2048 .i8) (harg2 : arg2.IsWhole) (arg3 : Memref sig .tc .vmem S16x512 .i16) (harg3 : arg3.IsWhole) (arg4 : Memref sig .tc .vmem S16x512 .i16) (harg4 : arg4.IsWhole) (arg5 : Memref sig .tc .vmem S512x128 .i8) (harg5 : arg5.IsWhole) (arg6 : Memref sig .tc .vmem S512x128 .i8) (harg6 : arg6.IsWhole) (arg7 : Memref sig .tc .vmem S48x512 .bf16) (harg7 : arg7.IsWhole) (arg8 : Memref sig .tc .vmem S96x8192 .bf16) (harg8 : arg8.IsWhole) (arg9 : Memref sig .tc .vmem S2x512x2x128 .bf16) (harg9 : arg9.IsWhole) (arg10 : Memref sig .tc .vmem S2x512x2x128 .bf16) (harg10 : arg10.IsWhole) (hc0 : cond0_0 i) (x0 : Vec Ideal S48x4096 .bf16) (x1 : Vec Ideal S512x2048 .i8) (x2 : Vec Ideal S16x512 .i16) (x3 : Vec Ideal S16x512 .i16) (x4 : Vec Ideal S512x128 .i8) (x5 : Vec Ideal S512x128 .i8) :
    sout0_A_0 c i arg1 harg1 arg2 harg2 arg3 harg3 arg4 harg4 arg5 harg5 arg6 harg6 arg7 harg7 arg8 harg8 arg9 harg9 arg10 harg10 hc0 x0 x1 x2 x3 x4 x5 = Block.spread x0 := by
  frame_open
  simp (disch := decide) only [Proc.kind, View.read_writes_junk_eq_canon, View.readCov_eq_canon', View.readAt_eq_ld, Memref.IsWhole.read_unread, View.ld_unit_lit', StableHlo.readPieces]
  open_payloads_core
  simp only [Block.result, Block.spread, Block.xPieces, Block.xPiece, Block.xRect, Block.ldIn, Block.select01, Block.source, Block.byteCol, Block.colNo, Block.pieces, Block.out, Block.pick, Block.lanes, Block.accTo, Block.product, Block.weights, Block.stripAt, Block.strip, Block.tileRows, Block.half, Block.ldScale, Block.ldX, Block.ldCodes, Block.codes, Block.nib, Block.words, Block.scales, Block.scalePieces, Block.scalePiece, Block.laneHalf, Block.rowRect, Block.scaleOf, Block.supers, Block.decode, Block.magnitude, Block.alternate, Block.dWords, Block.pick8, Block.idx8, Block.lane8, ld_fun, Fin.val_zero, Fin.val_one, Fin.coe_ofNat_eq_mod, Nat.zero_mod, Nat.mul_zero, Nat.add_zero, Nat.zero_add, Nat.zero_div, Nat.reduceMul, Nat.reduceAdd, Nat.reduceDiv, Nat.reduceMod]

/-- The first grid point: the output block. -/
theorem out_A (c : Dev nD) (i : grid0.Coords) (arg1 : Memref sig .tc .vmem S48x4096 .bf16) (harg1 : arg1.IsWhole) (arg2 : Memref sig .tc .vmem S512x2048 .i8) (harg2 : arg2.IsWhole) (arg3 : Memref sig .tc .vmem S16x512 .i16) (harg3 : arg3.IsWhole) (arg4 : Memref sig .tc .vmem S16x512 .i16) (harg4 : arg4.IsWhole) (arg5 : Memref sig .tc .vmem S512x128 .i8) (harg5 : arg5.IsWhole) (arg6 : Memref sig .tc .vmem S512x128 .i8) (harg6 : arg6.IsWhole) (arg7 : Memref sig .tc .vmem S48x512 .bf16) (harg7 : arg7.IsWhole) (arg8 : Memref sig .tc .vmem S96x8192 .bf16) (harg8 : arg8.IsWhole) (arg9 : Memref sig .tc .vmem S2x512x2x128 .bf16) (harg9 : arg9.IsWhole) (arg10 : Memref sig .tc .vmem S2x512x2x128 .bf16) (harg10 : arg10.IsWhole) (hc0 : cond0_0 i) (x0 : Vec Ideal S48x4096 .bf16) (x1 : Vec Ideal S512x2048 .i8) (x2 : Vec Ideal S16x512 .i16) (x3 : Vec Ideal S16x512 .i16) (x4 : Vec Ideal S512x128 .i8) (x5 : Vec Ideal S512x128 .i8) :
    out0_A_6 c i arg1 harg1 arg2 harg2 arg3 harg3 arg4 harg4 arg5 harg5 arg6 harg6 arg7 harg7 arg8 harg8 arg9 harg9 arg10 harg10 hc0 x0 x1 x2 x3 x4 x5 = Block.result x1 (Block.spread x0) x2 x3 x4 x5 := by
  frame_open
  simp (disch := decide) only [Proc.kind, View.read_writes_junk_eq_canon, View.readCov_eq_canon', View.readAt_eq_ld, Memref.IsWhole.read_unread, View.ld_unit_lit', StableHlo.readPieces]
  open_payloads_core
  simp only [Block.result, Block.spread, Block.xPieces, Block.xPiece, Block.xRect, Block.ldIn, Block.select01, Block.source, Block.byteCol, Block.colNo, Block.pieces, Block.out, Block.pick, Block.lanes, Block.accTo, Block.product, Block.weights, Block.stripAt, Block.strip, Block.tileRows, Block.half, Block.ldScale, Block.ldX, Block.ldCodes, Block.codes, Block.nib, Block.words, Block.scales, Block.scalePieces, Block.scalePiece, Block.laneHalf, Block.rowRect, Block.scaleOf, Block.supers, Block.decode, Block.magnitude, Block.alternate, Block.dWords, Block.pick8, Block.idx8, Block.lane8, ld_fun, Fin.val_zero, Fin.val_one, Fin.coe_ofNat_eq_mod, Nat.zero_mod, Nat.mul_zero, Nat.add_zero, Nat.zero_add, Nat.zero_div, Nat.reduceMul, Nat.reduceAdd, Nat.reduceDiv, Nat.reduceMod]

end Cert.KernelIdeal.Value

end
-- ==== Proof.Number.lean ====
/-
  The numbers that both programs compute with, and one element of the result as both compute it.
-/
module

public import Idealize.ShloMosaic.Lib.Pointwise

@[expose] public section

noncomputable section

open Idealize.ShloMosaic

namespace Cert.Number

/-- A small word read with its sign is its number. -/
theorem toInt_of_lt (w : BitVec 32) (n : ℕ) (h : w.toNat = n) (hn : n < 2 ^ 31) : ((w.toInt : ℝ) : EReal) = ((n : ℝ) : EReal) := by
  rw [BitVec.toInt_eq_toNat_of_lt (by omega), h]; norm_cast

/-- The number that the half-precision pattern `n` denotes: sign times significand times power of two. -/
def f16R (n : ℕ) : ℝ :=
  (if n / 32768 = 1 then -1 else 1) * ((if n / 1024 % 32 = 0 then n % 1024 else 1024 + n % 1024 : ℕ) : ℝ)
    * (2 : ℝ) ^ (((max (n / 1024 % 32) 1 : ℕ) : ℤ) - 25)

/-- The single-precision pattern of `2 ^ -24`. -/
theorem ofBits_two_pow_neg24 : Ideal.ofBits .f32 0x33800000#32 = (((2 : ℝ) ^ (-24 : ℤ) : ℝ) : EReal) := by
  simp [Ideal.ofBits, Ideal.ieee, -EReal.coe_mul]; norm_num

/-- A single-precision pattern with a positive sign and an exponent field that is neither zero nor all ones. -/
theorem ofBits_f32_normal (b : BitVec 32) (e f : ℕ) (hb : b.toNat = e * 8388608 + f) (hf : f < 8388608) (he : 0 < e) (he' : e < 255) :
    Ideal.ofBits .f32 b = ((((8388608 + f : ℕ) : ℝ) * (2 : ℝ) ^ ((e : ℤ) - 127 - 23) : ℝ) : EReal) := by
  have h1 : (b.extractLsb' 31 1).toNat = 0 := by
    rw [BitVec.extractLsb'_toNat, Nat.shiftRight_eq_div_pow, hb]; omega
  have h2 : (b.extractLsb' 23 8).toNat = e := by
    rw [BitVec.extractLsb'_toNat, Nat.shiftRight_eq_div_pow, hb]; omega
  have h3 : (b.extractLsb' 0 23).toNat = f := by
    rw [BitVec.extractLsb'_toNat, Nat.shiftRight_eq_div_pow, hb]; omega
  have h4 : (b.extractLsb' 31 1 == 1#1) = false := by
    rw [beq_eq_false_iff_ne]; intro h; rw [h] at h1; exact absurd h1 (by decide)
  show Ideal.ieee 8 23 b = _
  unfold Ideal.ieee
  simp only [Nat.reduceAdd, h2, h3, h4]
  rw [if_neg (by omega), if_neg (by omega)]
  norm_num

/-- One weight: a half of the byte `q` times a scale, minus an offset. -/
def weight (hf : ℕ) (q : BitVec 8) (d dm : BitVec 16) (s m : BitVec 8) : EReal :=
  (((q.toNat / 16 ^ hf % 16 : ℕ) : ℝ) : EReal) * (((f16R d.toNat : ℝ) : EReal) * (((s.toNat : ℕ) : ℝ) : EReal))
    - ((f16R dm.toNat : ℝ) : EReal) * (((m.toNat : ℕ) : ℝ) : EReal)

/-- One element of the result, from a row of the input and the rows of codes and scales of one output column. -/
def element (x : Fin 4096 → EReal) (q : Fin 2048 → BitVec 8) (d dm : Fin 16 → BitVec 16) (s m : Fin 128 → BitVec 8) : EReal :=
  ∑ g : Fin 64, ∑ j : Fin 32, ∑ hf : Fin 2, x ⟨64 * g.val + 32 * hf.val + j.val, by omega⟩
    * weight hf.val (q ⟨32 * g.val + j.val, by omega⟩) (d ⟨g.val / 4, by omega⟩) (dm ⟨g.val / 4, by omega⟩)
      (s ⟨2 * g.val + hf.val, by omega⟩) (m ⟨2 * g.val + hf.val, by omega⟩)

end Cert.Number

end
-- ==== Proof.Words.lean ====
/-
  The transposed bytes: which byte each part of a 32-bit word is, and the 4-bit codes cut out of the words.
-/
module

public import proofs.«01_k».proof.Proof.Block
public import proofs.«01_k».proof.Proof.Number
public import Idealize.ShloMosaic.Lib.Pointwise
public import Idealize.ShloMosaic.Lib.BitcastPair

@[expose] public section

noncomputable section

open Idealize.ShloMosaic Idealize.ShloMosaic.TcCoe Idealize.SL.Sem

namespace Cert.KernelIdeal.Block
open Cert.Number
open Cert.KernelIdeal Cert.KernelIdeal.Gen

/-- An array of rank 2 read at another bit width, at a bit: the row and the bit where that bit lies. -/
theorem bitcast_ix2 {R r n v w : ℕ} (x : (⟨2, ![R, n]⟩ : Shape).Idx → BitVec v)
    (h : (⟨2, ![R, n]⟩ : Shape).Bitcasts v ⟨2, ![r, n]⟩ w) (a : Fin r) (l : Fin n) (q : ℕ) (hq : q < w) (hv : 0 < v)
    (p : Fin R) (hp : p.val = (a.val * w + q) / v) (b : ℕ) (hb : b = (a.val * w + q) % v) :
    (bitcast ⟨2, ![r, n]⟩ w x h (ix2 a l)).getLsbD q = (x (ix2 p l)).getLsbD b := by
  rw [bitcast_getLsbD x h _ q hq hv, hb]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Bit `q` of word `[i, r]`. -/
theorem words_bit (v : Vec Ideal S512x128 .i8) (i : Fin 64) (r : Fin 256) (q : ℕ) (hq : q < 32) (a : Fin 512) (k : Fin 128)
    (ha : a.val = 2 * r.val + q % 16 / 8) (hk : k.val = 2 * i.val + q / 16) :
    (words v (ix2 i r)).getLsbD q = BitVec.getLsbD (v (ix2 a k)) (q % 8) := by
  unfold words
  rw [bitcast_ix2 _ _ i r q hq (by omega) k (by omega) (q % 16) (by omega)]
  pointwise
  rw [bitcast_ix2 _ _ r k (q % 16) (by omega) (by omega) ⟨r.val / 2, by omega⟩ (by show r.val / 2 = _; omega)
    (16 * (r.val % 2) + q % 16) (by omega)]
  exact bitcast_ix2 _ _ _ k _ (by omega) (by omega) a (by show a.val = (r.val / 2 * 32 + _) / 8; omega) _
    (by show q % 8 = (r.val / 2 * 32 + _) % 8; omega)

/-- A part of a word, from its bits. -/
theorem toNat_part {m : ℕ} (w : BitVec 32) (b : BitVec m) (o : ℕ) (_ : o + m ≤ 32)
    (h : ∀ j < m, w.getLsbD (o + j) = b.getLsbD j) : w.toNat / 2 ^ o % 2 ^ m = b.toNat := by
  apply Nat.eq_of_testBit_eq
  intro j
  rw [Nat.testBit_mod_two_pow, Nat.testBit_div_two_pow]
  by_cases hj : j < m
  · have h := h j hj
    simp only [hj, decide_true, Bool.true_and]
    rw [← BitVec.testBit_toNat, ← BitVec.testBit_toNat] at h
    rw [Nat.add_comm]; exact h
  · have : b.toNat < 2 ^ j := lt_of_lt_of_le b.isLt (Nat.pow_le_pow_right (by omega) (by omega))
    rw [Nat.testBit_lt_two_pow this]; simp [hj]

/-- Byte `β` of word `[i, r]` is the byte in row `2 r + β mod 2`, column `2 i + β / 2`. -/
theorem words_byte (v : Vec Ideal S512x128 .i8) (i : Fin 64) (r : Fin 256) (β : ℕ) (hβ : β < 4) (a : Fin 512) (k : Fin 128)
    (ha : a.val = 2 * r.val + β % 2) (hk : k.val = 2 * i.val + β / 2) :
    (words v (ix2 i r)).toNat / 2 ^ (8 * β) % 2 ^ 8 = BitVec.toNat (v (ix2 a k)) := by
  refine toNat_part _ _ _ (by omega) fun j hj => ?_
  have h := words_bit v i r (8 * β + j) (by omega) a k (by omega) (by omega)
  rwa [show (8 * β + j) % 8 = j by omega] at h

/-- A word shifted right and masked to its low bits, as a number. -/
theorem toNat_shrui_andi (w s M : BitVec 32) (k p : ℕ) (hs : s.toNat = k) (hk : k < 32) (hM : M.toNat = 2 ^ p - 1) :
    (IntOp.andi (IntOp.shrui .vector w s) M).toNat = w.toNat / 2 ^ k % 2 ^ p := by
  unfold IntOp.andi IntOp.shrui
  rw [if_pos (by omega), BitVec.toNat_and, BitVec.ushiftRight_eq', BitVec.toNat_ushiftRight, hM, Nat.and_two_pow_sub_one_eq_mod,
    Nat.shiftRight_eq_div_pow, hs]

/-- The four bits at `4 k` of word `[i, r]`: the low (`k` even) or high (`k` odd) half of a byte. -/
theorem nib_apply (v : Vec Ideal S512x128 .i8) (i : Fin 64) (r : Fin 256) (z : Fin 1) (s : BitVec 32) (k : ℕ) (hs : s.toNat = 4 * k) (hk : k < 8)
    (a : Fin 512) (b : Fin 128) (ha : a.val = 2 * r.val + k / 2 % 2) (hb : b.val = 2 * i.val + k / 4) :
    (((nib (words v) s (ix3 i z r)).toInt : ℝ) : EReal) = ((BitVec.toNat (v (ix2 a b)) / 16 ^ (k % 2) % 16 : ℕ) : ℝ) := by
  have e : nib (words v) s (ix3 i z r) = IntOp.andi (IntOp.shrui .vector (words v (ix2 i r)) s) 15#32 := by
    unfold nib; pointwise
  have h := toNat_shrui_andi (words v (ix2 i r)) s 15#32 (4 * k) 4 hs (by omega) rfl
  have hB := words_byte v i r (k / 2) (by omega) a b (by omega) (by omega)
  rw [e]
  refine toInt_of_lt _ _ (h.trans ?_) (lt_trans (Nat.mod_lt _ (by norm_num)) (by norm_num))
  rw [← hB]
  interval_cases k <;> norm_num <;> omega

/-- The code in row `R`, column `r`: half of a byte. -/
theorem codes_apply (v : Vec Ideal S512x128 .i8) (R : Fin 512) (r : Fin 256) (a : Fin 512) (b : Fin 128)
    (ha : a.val = 2 * r.val + R.val / 2 % 2) (hb : b.val = R.val / 4) :
    codes (words v) (ix2 R r) = ((BitVec.toNat (v (ix2 a b)) / 16 ^ (R.val % 2) % 16 : ℕ) : ℝ) := by
  unfold codes
  rw [show R.val % 2 = R.val % 8 % 2 by omega]
  pointwise
  split_ifs
  all_goals
    refine nib_apply v _ r _ _ (R.val % 8) ?_ (by omega) a b (by omega) ?_
    · simp only [BitVec.toNat_ofNat, Nat.reducePow, Nat.reduceMod]; omega
    · show b.val = 2 * (R.val / 8) + _; omega

end Cert.KernelIdeal.Block

end
-- ==== Proof.Half.lean ====
/-
  Half-precision numbers from their 16 bits: the two ways of computing one number.
-/
module

public import proofs.«01_k».proof.Proof.Number
public import proofs.«01_k».proof.Proof.Words
public import Mathlib.Data.Nat.Bitwise

@[expose] public section

noncomputable section

open Idealize.ShloMosaic Idealize.ShloMosaic.TcCoe Idealize.SL.Sem

namespace Cert.KernelIdeal.Block
open Cert.Number Cert.KernelIdeal Cert.KernelIdeal.Gen

/-- A choice by "less than" on unsigned words. -/
theorem select_ult {α : Type} (x y : BitVec 32) (a b : α) :
    Scalar.select (IntOp.cmpi .ult x y) a b = if x.toNat < y.toNat then a else b := by
  refine (Scalar.select_ofBool (x.ult y) a b).trans ?_
  simp [BitVec.ult]

/-- A choice by "not zero" on words. -/
theorem select_ne_zero {α : Type} (x : BitVec 32) (a b : α) :
    Scalar.select (IntOp.cmpi .ne x 0#32) a b = if x.toNat = 0 then b else a := by
  refine (Scalar.select_ofBool (x != 0#32) a b).trans ?_
  by_cases h : x = 0#32
  · simp [h]
  · have : x.toNat ≠ 0 := fun h' => h (BitVec.eq_of_toNat_eq (by simpa using h'))
    simp [h, this]

/-- The kernel's magnitude of the 15 low bits. -/
theorem magnitude_apply (em : IVec S8x256 32) (j : S8x256.Idx) (n : ℕ) (hn : (em j).toNat = n) (hlt : n < 32768) :
    magnitude em j = ((f16R n : ℝ) : EReal) := by
  have hs : n / 32768 ≠ 1 := by omega
  unfold magnitude
  pointwise
  rw [select_ult, hn, BitVec.toNat_ofNat]
  by_cases h : n < 1024
  · rw [if_pos (by omega), ofBits_two_pow_neg24]
    have e : FloatOps.sitofp (F := Ideal) FTy.f32 (em j) = ((n : ℝ) : EReal) := toInt_of_lt _ n hn (by omega)
    rw [e, ← EReal.coe_mul]
    congr 1
    unfold f16R
    rw [if_neg hs, if_pos (by omega), show n / 1024 % 32 = 0 by omega, show n % 1024 = n by omega]
    norm_num
  · rw [if_neg (by omega), ofBits_f32_normal _ (n / 1024 + 112) (n % 1024 * 8192) ?_ (by omega) (by omega) (by omega)]
    · congr 1
      unfold f16R
      rw [if_neg hs, if_neg (by omega), max_eq_left (by omega), show n / 1024 % 32 = n / 1024 by omega, one_mul]
      rw [show (((n / 1024 + 112 : ℕ) : ℤ) - 127 - 23) = (((n / 1024 : ℕ) : ℤ) - 25) + (-13) by push_cast; ring,
        zpow_add₀ (by norm_num), show (8388608 + n % 1024 * 8192 : ℕ) = 8192 * (1024 + n % 1024) by ring]
      push_cast
      norm_num
      ring
    · unfold IntOp.addi IntOp.shli
      rw [if_pos (by decide), BitVec.toNat_add, BitVec.shiftLeft_eq', BitVec.toNat_shiftLeft, hn]
      simp only [BitVec.toNat_ofNat, Nat.shiftLeft_eq, Nat.reducePow, Nat.reduceMod]
      omega

/-- The number without its sign bit, negated where that bit is set. -/
theorem f16R_sign (n : ℕ) (h : n < 65536) : f16R n = if n / 32768 = 0 then f16R (n % 32768) else -f16R (n % 32768) := by
  unfold f16R
  rw [show n % 32768 / 1024 % 32 = n / 1024 % 32 by omega, show n % 32768 % 1024 = n % 1024 by omega,
    if_neg (show ¬ n % 32768 / 32768 = 1 by omega)]
  by_cases hs : n / 32768 = 0
  · rw [if_neg (by omega), if_pos hs]
  · rw [if_pos (by omega), if_neg hs]; ring

/-- The kernel's reading of the 16 bits of a word. -/
theorem decode_apply (h : IVec S8x256 32) (j : S8x256.Idx) (n : ℕ) (hn : (h j).toNat = n) (hlt : n < 65536) :
    decode h j = ((f16R n : ℝ) : EReal) := by
  have e15 : (andi h (broadcast S8x256 32767#32) j).toNat = n % 32768 := by
    pointwise
    unfold IntOp.andi
    rw [BitVec.toNat_and, hn]
    exact Nat.and_two_pow_sub_one_eq_mod n 15
  have e16 : (IntOp.andi (h j) 32768#32).toNat = 32768 * (n / 32768) := by
    unfold IntOp.andi
    rw [BitVec.toNat_and, hn]
    have := Nat.and_two_pow n 15
    norm_num at this
    simp only [BitVec.toNat_ofNat, Nat.reducePow, Nat.reduceMod]
    rw [this, Nat.testBit_eq_decide_div_mod_eq]
    have : n / 32768 = 0 ∨ n / 32768 = 1 := by omega
    rcases this with h | h <;> simp [h]
  have hm := magnitude_apply _ j (n % 32768) e15 (Nat.mod_lt _ (by norm_num))
  unfold decode
  pointwise
  rw [select_ne_zero, e16, hm, f16R_sign n hlt]
  by_cases hs : n / 32768 = 0
  · rw [if_pos (by omega), if_pos hs]
  · rw [if_neg (by omega), if_neg hs, zero_sub, EReal.coe_neg]

end Cert.KernelIdeal.Block

end
-- ==== Proof.Scales.lean ====
/-
  The scale buffers, element by element: a scale code times the half-precision number of its super-block.
-/
module

public import proofs.«01_k».proof.Proof.Half

@[expose] public section

noncomputable section

open Idealize.ShloMosaic Idealize.ShloMosaic.TcCoe Idealize.SL.Sem

namespace Cert.KernelIdeal.Block
open Cert.KernelIdeal Cert.KernelIdeal.Gen Cert.Number

/-- Half `β` of word `[i, c]` of the super-block patterns. -/
theorem dWords_half (D : Vec Ideal S16x512 .i16) (i : Fin 8) (c : Fin 512) (β : ℕ) (hβ : β < 2) (s : Fin 16) (hs : s.val = 2 * i.val + β) :
    (dWords D (ix2 i c)).toNat / 2 ^ (16 * β) % 2 ^ 16 = BitVec.toNat (D (ix2 s c)) := by
  refine toNat_part _ _ _ (by omega) fun j hj => ?_
  unfold dWords
  rw [bitcast_ix2 _ _ i c _ (by omega) (by omega) s (by omega) j (by omega)]
  pointwise

/-- The lane that is gathered when every second lane is taken. -/
theorem idx8_word : ∀ (p : Fin 2) (l : Fin 128),
    (Scalar.select (IntOp.cmpi .slt (IntOp.andi (IntOp.addi (IntOp.muli 2#32 (BitVec.ofNat 32 l.val)) (BitVec.ofNat 32 p.val)) 127#32) 0#32)
      (IntOp.addi (IntOp.andi (IntOp.addi (IntOp.muli 2#32 (BitVec.ofNat 32 l.val)) (BitVec.ofNat 32 p.val)) 127#32) 128#32)
      (IntOp.andi (IntOp.addi (IntOp.muli 2#32 (BitVec.ofNat 32 l.val)) (BitVec.ofNat 32 p.val)) 127#32)).toNat % 128
    = (2 * l.val + p.val) % 128 := by decide +kernel

/-- A choice between the lower and the upper 64 lanes. -/
theorem lane_word {α : Type} (a b : α) (n : ℕ) (hn : n < 128) :
    Scalar.select (IntOp.cmpi .slt (BitVec.ofNat 32 n) 64#32) a b = if n < 64 then a else b := by
  have h : ∀ l : Fin 128, IntOp.cmpi .slt (BitVec.ofNat 32 l.val) 64#32 = BitVec.ofBool (decide (l.val < 64)) := by decide +kernel
  rw [h ⟨n, hn⟩, Scalar.select_ofBool]; simp

/-- The gather that takes every second lane. -/
theorem pick8_apply (p : Fin 2) (v : IVec S8x128 32) (i : Fin 8) (l : Fin 128) :
    pick8 (BitVec.ofNat 32 p.val) v (ix2 i l) = v (ix2 i ⟨(2 * l.val + p.val) % 128, by omega⟩) := by
  unfold pick8 idx8 lane8
  pointwise [idx8_word]

/-- Every second column of the patterns. -/
theorem alternate_apply (p : Fin 2) (D : Vec Ideal S16x512 .i16) (i : Fin 8) (r : Fin 256) :
    alternate (BitVec.ofNat 32 p.val) D (ix2 i r) = dWords D (ix2 i ⟨2 * r.val + p.val, by omega⟩) := by
  unfold alternate lane8
  pointwise [pick8_apply]
  by_cases h : r.val < 128
  · rw [dif_pos h, lane_word _ _ _ h]
    split_ifs <;> exact congrArg (dWords D) (congrArg (ix2 i) (Fin.ext (by dsimp only; omega)))
  · rw [dif_neg h, lane_word _ _ _ (by omega)]
    split_ifs <;> exact congrArg (dWords D) (congrArg (ix2 i) (Fin.ext (by dsimp only; omega)))

/-- The super-block scales of group `g`. -/
theorem supers_apply (w : IVec S8x256 32) (g : Fin 64) (r : Fin 256) (n : ℕ)
    (hn : ∀ i : Fin 8, i.val = g.val / 8 → (w (ix2 i r)).toNat / 2 ^ (16 * (g.val / 4 % 2)) % 2 ^ 16 = n) :
    supers w (ix2 g r) = ((f16R n : ℝ) : EReal) := by
  have hi := hn ⟨g.val / 4 / 2, by omega⟩ (by dsimp only; omega)
  unfold supers
  pointwise
  by_cases h : g.val / 4 % 2 < 1
  · rw [dif_pos h]
    refine decode_apply _ _ n ?_ (by omega)
    pointwise
    unfold IntOp.andi
    have e : g.val / 4 % 2 = 0 := by omega
    simp only [e] at hi
    rw [BitVec.toNat_and, ← hi]
    exact (Nat.and_two_pow_sub_one_eq_mod _ 16).trans (by simp)
  · rw [dif_neg h]
    try rw [dif_pos (by rfl)]
    refine decode_apply _ _ n ?_ (by omega)
    pointwise
    unfold IntOp.shrui
    have e : g.val / 4 % 2 = 1 := by omega
    simp only [e] at hi
    rw [if_pos (by decide), BitVec.ushiftRight_eq', BitVec.toNat_ushiftRight, Nat.shiftRight_eq_div_pow, ← hi]
    have := (w (ix2 (⟨g.val / 4 / 2, by omega⟩ : Fin 8) r)).isLt
    simp only [BitVec.toNat_ofNat, Nat.reducePow, Nat.reduceMod, Nat.reduceMul] at hi this ⊢
    omega

/-- A scale: its code times the number of its super-block. -/
theorem scaleOf_apply (C : Vec Ideal S512x128 .i8) (D : Vec Ideal S16x512 .i16) (p h : Fin 2) (s : BitVec 32) (hs : s.toNat = 8 * (p.val + 2 * h.val))
    (g : Fin 64) (r : Fin 256) (n : Fin 512) (hn : n.val = 2 * r.val + p.val) :
    scaleOf (words C) s (supers (alternate (BitVec.ofNat 32 p.val) D)) (ix2 g r)
      = (((BitVec.toNat (C (ix2 n (⟨2 * g.val + h.val, by omega⟩ : Fin 128))) : ℕ) : ℝ) : EReal)
        * ((f16R (BitVec.toNat (D (ix2 (⟨g.val / 4, by omega⟩ : Fin 16) n))) : ℝ) : EReal) := by
  unfold scaleOf
  pointwise
  congr 1
  · refine toInt_of_lt _ _ ((toNat_shrui_andi _ _ _ (8 * (p.val + 2 * h.val)) 8 hs (by omega) rfl).trans ?_)
      (lt_trans (BitVec.isLt _) (by norm_num))
    exact words_byte C g r (p.val + 2 * h.val) (by omega) n _ (by omega) (by dsimp only; omega)
  · refine supers_apply _ g r _ fun i hi => ?_
    rw [alternate_apply]
    rw [dWords_half D i _ (g.val / 4 % 2) (by omega) ⟨g.val / 4, by omega⟩ (by dsimp only; omega)]
    exact congrArg (fun k => BitVec.toNat (D (ix2 (⟨g.val / 4, by omega⟩ : Fin 16) k))) (Fin.ext hn.symm)

/-- A filled buffer of scales as a function of its index: lane half, row, half of the pair, lane. -/
def scalesAt (C : Vec Ideal S512x128 .i8) (D : Vec Ideal S16x512 .i16) (i : S2x512x2x128.Idx) : EReal :=
  have h0 : (i 0).val < 2 := (i 0).isLt
  have h1 : (i 1).val < 512 := (i 1).isLt
  have h2 : (i 2).val < 2 := (i 2).isLt
  have h3 : (i 3).val < 128 := (i 3).isLt
  (((BitVec.toNat (C (ix2 (⟨2 * (128 * (i 0).val + (i 3).val) + (i 1).val % 2, by omega⟩ : Fin 512)
      (⟨2 * ((i 1).val / 8) + (i 2).val, by omega⟩ : Fin 128))) : ℕ) : ℝ) : EReal)
    * ((f16R (BitVec.toNat (D (ix2 (⟨(i 1).val / 32, by omega⟩ : Fin 16)
      (⟨2 * (128 * (i 0).val + (i 3).val) + (i 1).val % 2, by omega⟩ : Fin 512)))) : ℝ) : EReal)

/-- Each store holds the scales of the place it is stored to. -/
theorem scalePiece_apply (C : Vec Ideal S512x128 .i8) (D : Vec Ideal S16x512 .i16) (p : Fin 2) (r : Fin 8) (c : Fin 2) (hr : r.val % 2 = p.val)
    (j : (scalePiece C D p r c).1.shape.Idx) :
    (scalePiece C D p r c).2 j = scalesAt C D ((scalePiece C D p r c).1.emb j) := by
  obtain ⟨z, g, h, l, rfl⟩ : ∃ (z : Fin 1) (g : Fin 64) (h : Fin 2) (l : Fin 128), j = ix4 z g h l := ⟨j 0, j 1, j 2, j 3, eq_ix4 j⟩
  unfold scalePiece laneHalf
  pointwise
  have hz : z.val = 0 := by omega
  have hc : (⟨2 * (128 * c.val + l.val) + p.val, by omega⟩ : Fin 512).val = 2 * (128 * c.val + l.val) + p.val := rfl
  have key : ∀ (s : BitVec 32) (hs : s.toNat = 8 * (p.val + 2 * h.val)),
      scaleOf (words C) s (supers (alternate (BitVec.ofNat 32 p.val) D)) (ix2 g ⟨128 * c.val + l.val, by omega⟩)
        = scalesAt C D ((rowRect c r).emb (ix4 z g h l)) := by
    intro s hs
    rw [scaleOf_apply C D p h s hs g ⟨128 * c.val + l.val, by omega⟩ ⟨2 * (128 * c.val + l.val) + p.val, by omega⟩ rfl]
    have e1 : (⟨2 * (128 * c.val + l.val) + p.val, by omega⟩ : Fin 512)
        = ⟨2 * (128 * (c.val + 1 * z.val) + (0 + 1 * l.val)) + (r.val + 8 * g.val) % 2, by omega⟩ := Fin.ext (by dsimp only; omega)
    have e2 : (⟨2 * g.val + h.val, by omega⟩ : Fin 128) = ⟨2 * ((r.val + 8 * g.val) / 8) + (0 + 1 * h.val), by omega⟩ :=
      Fin.ext (by dsimp only; omega)
    have e3 : (⟨g.val / 4, by omega⟩ : Fin 16) = ⟨(r.val + 8 * g.val) / 32, by omega⟩ := Fin.ext (by dsimp only; omega)
    rw [e1, e2, e3]
    rfl
  split_ifs with hh
  · exact key _ (by rw [BitVec.toNat_ofNat]; simp only [Nat.reducePow]; omega)
  · exact key _ (by rw [BitVec.toNat_ofNat]; simp only [Nat.reducePow]; omega)

/-- Where a store goes. -/
theorem mem_rowRect (c : Fin 2) (r : Fin 8) (i : S2x512x2x128.Idx) (h0 : (i 0).val = c.val) (h1 : (i 1).val % 8 = r.val) :
    i ∈ (rowRect c r).set := by
  have b1 : (i 1).val < 512 := (i 1).isLt
  refine (LoadRect.mem_set _).2 fun a => ?_
  match a with
  | ⟨0, _⟩ => exact ⟨0, Nat.one_pos, h0⟩
  | ⟨1, _⟩ => exact ⟨(i 1).val / 8, (show (i 1).val / 8 < 64 by omega), (show (i 1).val = r.val + 8 * ((i 1).val / 8) by omega)⟩
  | ⟨2, _⟩ => exact ⟨(i 2).val, (i 2).isLt, (show (i 2).val = 0 + 1 * (i 2).val by omega)⟩
  | ⟨3, _⟩ => exact ⟨(i 3).val, (i 3).isLt, (show (i 3).val = 0 + 1 * (i 3).val by omega)⟩

/-- The stores are those of every parity, row and lane half. -/
theorem mem_scalePieces (C : Vec Ideal S512x128 .i8) (D : Vec Ideal S16x512 .i16) :
    ∀ (n : ℕ) (h : n ≤ 16) (q : View.Piece (Elt Ideal) S2x512x2x128 .bf16),
    q ∈ scalePieces C D n h ↔ ∃ (k : ℕ) (hk : k < n),
      q = scalePiece C D ⟨k / 8, by omega⟩ ⟨k / 8 + 2 * (k % 8 / 2), by omega⟩ ⟨k % 2, by omega⟩
  | 0, _, q => by simp [scalePieces]
  | n + 1, h, q => by
    rw [scalePieces, List.mem_cons, mem_scalePieces C D n (by omega) q]
    constructor
    · rintro (rfl | ⟨k, hk, rfl⟩)
      · exact ⟨n, by omega, rfl⟩
      · exact ⟨k, by omega, rfl⟩
    · rintro ⟨k, hk, rfl⟩
      by_cases hkn : k = n
      · subst hkn; exact Or.inl rfl
      · exact Or.inr ⟨k, by omega, rfl⟩

/-- The filled buffer of scales. -/
theorem scales_apply (C : Vec Ideal S512x128 .i8) (D : Vec Ideal S16x512 .i16) (i : S2x512x2x128.Idx) : scales C D i = scalesAt C D i := by
  refine View.canon_apply_of_pieces (Val := Elt Ideal) (S := S2x512x2x128) (e := .bf16) (scalesAt C D) _ (fun q hq j => ?_) i ?_
  · obtain ⟨k, hk, rfl⟩ := (mem_scalePieces C D _ _ q).1 hq
    exact scalePiece_apply C D _ _ _ (by dsimp only; omega) j
  · have h0 : (i 0).val < 2 := (i 0).isLt
    have h1 : (i 1).val < 512 := (i 1).isLt
    refine ⟨_, (mem_scalePieces C D _ _ _).2 ⟨8 * ((i 1).val % 2) + 2 * ((i 1).val % 8 / 2) + (i 0).val, by omega, rfl⟩, ?_⟩
    have e1 : (8 * ((i 1).val % 2) + 2 * ((i 1).val % 8 / 2) + (i 0).val) / 8 = (i 1).val % 2 := by omega
    have e2 : (8 * ((i 1).val % 2) + 2 * ((i 1).val % 8 / 2) + (i 0).val) % 8 / 2 = (i 1).val % 8 / 2 := by omega
    exact mem_rowRect _ _ i (by dsimp only; omega) (by dsimp only; rw [e1, e2]; omega)

end Cert.KernelIdeal.Block

end
-- ==== Proof.Weights.lean ====
/-
  A tile of weights, element by element: a 4-bit code times its scale, minus its offset.
-/
module

public import proofs.«01_k».proof.Proof.Scales

@[expose] public section

noncomputable section

open Idealize.ShloMosaic Idealize.ShloMosaic.TcCoe Idealize.SL.Sem

namespace Cert.KernelIdeal.Block
open Cert.KernelIdeal Cert.KernelIdeal.Gen Cert.Number

/-- One number of each pair of the rows loaded from a scale buffer. -/
theorem half_apply (p : Fin 2) (S : Scr) (c : Fin 2) (gg : Fin 64) (i : Fin 8) (l : Fin 128) :
    half p (ldScale S c gg) (ix2 i l) = S (ix4 c (⟨8 * gg.val + i.val, by omega⟩ : Fin 512) p l) := by
  unfold half
  pointwise
  refine congrArg S (funext fun a => Fin.ext ?_)
  match a with
  | ⟨0, _⟩ => show c.val + 1 * 0 = c.val; omega
  | ⟨1, _⟩ => show 8 * gg.val + 1 * i.val = 8 * gg.val + i.val; omega
  | ⟨2, _⟩ => show 0 + 1 * p.val = p.val; omega
  | ⟨3, _⟩ => show 0 + 1 * l.val = l.val; omega

/-- The sixteen rows of scales. -/
theorem tileRows_apply (S : Scr) (gg : Fin 64) (i : Fin 16) (r : Fin 256) :
    tileRows S gg (ix2 i r) = S (ix4 (⟨r.val / 128, by omega⟩ : Fin 2) (⟨8 * gg.val + i.val / 2, by omega⟩ : Fin 512)
      (⟨i.val % 2, by omega⟩ : Fin 2) (⟨r.val % 128, by omega⟩ : Fin 128)) := by
  unfold tileRows
  pointwise [half_apply]
  have key : ∀ (R : Fin 512) (a b : Fin 2) (l : Fin 128), r.val = 128 * a.val + l.val → i.val % 2 = b.val →
      S (ix4 a R b l) = S (ix4 (⟨r.val / 128, by omega⟩ : Fin 2) R (⟨i.val % 2, by omega⟩ : Fin 2) (⟨r.val % 128, by omega⟩ : Fin 128)) := by
    intro R a b l h1 h2
    have e1 : a = ⟨r.val / 128, by omega⟩ := Fin.ext (by dsimp only; omega)
    have e2 : b = ⟨i.val % 2, by omega⟩ := Fin.ext (by dsimp only; omega)
    have e3 : l = ⟨r.val % 128, by omega⟩ := Fin.ext (by dsimp only; omega)
    rw [e1, e2]
    exact congrArg (fun l => S (ix4 _ R _ l)) e3
  split_ifs
  all_goals
    refine key _ _ _ _ ?_ ?_
    · simp only [Fin.val_zero, Fin.val_one]; omega
    · simp only [Fin.val_zero, Fin.val_one]; omega

/-- One strip of a tile of weights, at the place `c` it has in the tile. -/
theorem stripAt_apply (q : FVec Ideal S512x256 .bf16) (S M : Scr) (tt : Fin 32) (g : Fin 2) (j : Fin 8) (i : Fin 16) (r c : Fin 256)
    (hc : c.val = 128 * g.val + 16 * j.val + i.val) :
    stripAt q S M tt g j (ix2 i r) = q (ix2 (⟨256 * (tt.val % 2) + c.val, by omega⟩ : Fin 512) r)
        * tileRows S ⟨2 * tt.val + c.val / 128, by omega⟩ (ix2 (⟨c.val % 16, by omega⟩ : Fin 16) r)
      - tileRows M ⟨2 * tt.val + c.val / 128, by omega⟩ (ix2 (⟨c.val % 16, by omega⟩ : Fin 16) r) := by
  have e1 : (⟨c.val % 16, by omega⟩ : Fin 16) = i := Fin.ext (by dsimp only; omega)
  have e2 : (⟨2 * tt.val + c.val / 128, by omega⟩ : Fin 64) = ⟨2 * tt.val + g.val, by omega⟩ := Fin.ext (by dsimp only; omega)
  rw [e1, e2]
  unfold stripAt strip
  pointwise
  rw [show (⟨256 * (tt.val % 2) + 128 * g.val + 16 * j.val + i.val, by omega⟩ : Fin 512) = ⟨256 * (tt.val % 2) + c.val, by omega⟩ from
    Fin.ext (by dsimp only; omega)]

/-- Strips of sixteen rows below one another, read at a row: the strip that holds the row gives the value. -/
theorem strips_apply (v : EReal) (j : S256x256.Idx) : ∀ (f : List (FVec Ideal S16x256 .bf16)) (hs) (c : ℕ) (hc),
    (∀ (k : ℕ) (hk : k < f.length) (i : Fin 16), c = 16 * k + i.val → f[k] (ix2 i (j 1 : Fin 256)) = v) →
    concatenateAt S256x256 0 j (f.map fun g => (⟨S16x256, g⟩ : (s : Shape) × (s.Idx → EReal))) hs c hc = v
  | [], _, _, hc, _ => absurd hc (Nat.not_lt_zero _)
  | [g], hs, c, hc, H => by
    have hc' : c < 16 := hc
    refine Eq.trans (congrArg g (funext fun a => Fin.ext ?_)) (H 0 Nat.one_pos ⟨c, hc'⟩ (by simp))
    rw [Shape.Idx.norm_def]
    match a with
    | ⟨0, _⟩ => rfl
    | ⟨1, _⟩ => rfl
  | g :: g' :: f, hs, c, hc, H => by
    simp only [List.map_cons]
    rw [concatenateAt]
    split
    · rename_i h
      refine Eq.trans (congrArg g (funext fun a => Fin.ext ?_)) (H 0 (by simp) ⟨c, h⟩ (by simp))
      rw [Shape.Idx.norm_def]
      match a with
      | ⟨0, _⟩ => rfl
      | ⟨1, _⟩ => rfl
    · rename_i h
      have h' : ¬ c < 16 := h
      refine strips_apply v j (g' :: f) _ _ _ fun k hk i hi => ?_
      have hi' : c - 16 = 16 * k + i.val := hi
      exact H (k + 1) (by simpa using hk) i (by omega)

/-- A tile of weights. -/
theorem weights_apply (q : FVec Ideal S512x256 .bf16) (S M : Scr) (tt : Fin 32) (c r : Fin 256) :
    weights q S M tt (ix2 c r) = q (ix2 (⟨256 * (tt.val % 2) + c.val, by omega⟩ : Fin 512) r)
        * tileRows S ⟨2 * tt.val + c.val / 128, by omega⟩ (ix2 (⟨c.val % 16, by omega⟩ : Fin 16) r)
      - tileRows M ⟨2 * tt.val + c.val / 128, by omega⟩ (ix2 (⟨c.val % 16, by omega⟩ : Fin 16) r) := by
  unfold weights
  rw [concatenate_apply]
  refine strips_apply _ (ix2 c r) ((List.finRange 16).map fun k : Fin 16 => stripAt q S M tt ⟨k.val / 8, by omega⟩ ⟨k.val % 8, by omega⟩)
    _ _ _ fun k hk i hi => ?_
  have hk' : k < 16 := by simpa using hk
  have hi' : c.val = 16 * k + i.val := hi
  simp only [List.getElem_map, List.getElem_finRange]
  exact stripAt_apply q S M tt _ _ i r c (show c.val = 128 * (k / 8) + 16 * (k % 8) + i.val by omega)

/-- The scale that a row of a tile of weights is multiplied by. -/
theorem tileRows_scales (C : Vec Ideal S512x128 .i8) (D : Vec Ideal S16x512 .i16) (gg : Fin 64) (i : Fin 16) (r : Fin 256)
    (n : Fin 512) (s : Fin 16) (u : Fin 128) (hn : n.val = 2 * r.val + i.val / 2 % 2) (hs : s.val = gg.val / 4) (hu : u.val = 2 * gg.val + i.val % 2) :
    tileRows (scales C D) gg (ix2 i r)
      = (((BitVec.toNat (C (ix2 n u)) : ℕ) : ℝ) : EReal) * ((f16R (BitVec.toNat (D (ix2 s n))) : ℝ) : EReal) := by
  rw [tileRows_apply, scales_apply]
  have e1 : n = ⟨2 * (128 * (r.val / 128) + r.val % 128) + (8 * gg.val + i.val / 2) % 2, by omega⟩ := Fin.ext (by dsimp only; omega)
  have e2 : u = ⟨2 * ((8 * gg.val + i.val / 2) / 8) + i.val % 2, by omega⟩ := Fin.ext (by dsimp only; omega)
  have e3 : s = ⟨(8 * gg.val + i.val / 2) / 32, by omega⟩ := Fin.ext (by dsimp only; omega)
  rw [e1, e2, e3]
  rfl

/-- A tile of weights in terms of the blocks it is made from. -/
theorem tile_apply (Q : Vec Ideal S512x2048 .i8) (D D' : Vec Ideal S16x512 .i16) (C C' : Vec Ideal S512x128 .i8) (tt : Fin 32) (c r : Fin 256)
    (n : Fin 512) (k : Fin 2048) (s : Fin 16) (u : Fin 128) (hn : n.val = 2 * r.val + c.val / 2 % 2) (hk : k.val = 64 * tt.val + c.val / 4)
    (hs : s.val = (2 * tt.val + c.val / 128) / 4) (hu : u.val = 2 * (2 * tt.val + c.val / 128) + c.val % 2) :
    weights (codes (words (ldCodes Q ⟨tt.val / 2, by omega⟩))) (scales C D) (scales C' D') tt (ix2 c r)
      = weight (c.val % 2) (Q (ix2 n k)) (D (ix2 s n)) (D' (ix2 s n)) (C (ix2 n u)) (C' (ix2 n u)) := by
  rw [weights_apply, tileRows_scales C D _ _ r n s u (by dsimp only; omega) hs (by dsimp only; omega),
    tileRows_scales C' D' _ _ r n s u (by dsimp only; omega) hs (by dsimp only; omega),
    codes_apply _ _ r n (⟨(256 * (tt.val % 2) + c.val) / 4, by omega⟩ : Fin 128) (by dsimp only; omega) rfl]
  have e : ldCodes Q ⟨tt.val / 2, by omega⟩ (ix2 n (⟨(256 * (tt.val % 2) + c.val) / 4, by omega⟩ : Fin 128)) = Q (ix2 n k) := by
    refine congrArg Q (funext fun a => Fin.ext ?_)
    match a with
    | ⟨0, _⟩ => show 0 + 1 * n.val = n.val; omega
    | ⟨1, _⟩ => show 128 * (tt.val / 2) + 1 * ((256 * (tt.val % 2) + c.val) / 4) = k.val; omega
  rw [e, show (256 * (tt.val % 2) + c.val) % 2 = c.val % 2 by omega]
  unfold weight
  rw [mul_comm (((BitVec.toNat (C (ix2 n u)) : ℕ) : ℝ) : EReal), mul_comm (((BitVec.toNat (C' (ix2 n u)) : ℕ) : ℝ) : EReal)]

end Cert.KernelIdeal.Block

end
-- ==== Proof.Spread.lean ====
/-
  The spread input, element by element: at a column of its own parity each row holds one input element, elsewhere zero.
-/
module

public import proofs.«01_k».proof.Proof.Words

@[expose] public section

noncomputable section

open Idealize.ShloMosaic Idealize.ShloMosaic.TcCoe Idealize.SL.Sem

namespace Cert.KernelIdeal.Block
open Cert.KernelIdeal Cert.KernelIdeal.Gen Cert.Number

/-- The input column, of a block of 128, that column `c` of a block of 256 meets. -/
def sourceCol (c : ℕ) : ℕ := 64 * (c / 128) + c / 4 % 32 + 32 * (c % 2)

/-- The input column lies in the block of 128. -/
theorem sourceCol_lt (c : ℕ) (h : c < 256) : sourceCol c < 128 := by unfold sourceCol; omega

/-- The word arithmetic of the source column. -/
theorem source_word : ∀ c : Fin 256,
    IntOp.addi (IntOp.addi (IntOp.shli .vector (IntOp.shrsi .vector (IntOp.shrsi .vector (BitVec.ofNat 32 c.val) 2#32) 5#32) 6#32)
        (IntOp.andi (IntOp.shrsi .vector (BitVec.ofNat 32 c.val) 2#32) 31#32))
      (IntOp.shli .vector (IntOp.andi (BitVec.ofNat 32 c.val) 1#32) 5#32) = BitVec.ofNat 32 (sourceCol c.val) := by decide +kernel

/-- The word arithmetic of a column's parity. -/
theorem parity_word : ∀ c : Fin 256,
    IntOp.andi (IntOp.shrsi .vector (BitVec.ofNat 32 c.val) 1#32) 1#32 = BitVec.ofNat 32 (c.val / 2 % 2) := by decide +kernel

/-- Two small numbers are equal exactly when their words are. -/
theorem cmpi_eq_ofNat (a b : ℕ) (ha : a < 2 ^ 32) (hb : b < 2 ^ 32) :
    IntOp.cmpi .eq (BitVec.ofNat 32 a) (BitVec.ofNat 32 b) = BitVec.ofBool (decide (a = b)) := by
  show BitVec.ofBool _ = _
  congr 1
  rw [Bool.eq_iff_iff, beq_iff_eq, decide_eq_true_iff]
  constructor
  · intro h
    have := congrArg BitVec.toNat h
    rw [BitVec.toNat_ofNat, BitVec.toNat_ofNat, Nat.mod_eq_of_lt ha, Nat.mod_eq_of_lt hb] at this
    exact this
  · rintro rfl; rfl

/-- The 0/1 matrix. -/
theorem select01_apply (p : Fin 2) (k : Fin 128) (c : Fin 256) :
    select01 (BitVec.ofNat 32 p.val) (ix2 k c) = if k.val = sourceCol c.val ∧ c.val / 2 % 2 = p.val then 1 else 0 := by
  unfold select01 source byteCol colNo
  pointwise
  rw [source_word, parity_word, cmpi_eq_ofNat _ _ (by omega) (by have := sourceCol_lt _ c.isLt; omega), cmpi_eq_ofNat _ _ (by omega) (by omega)]
  by_cases h1 : k.val = sourceCol c.val <;> by_cases h2 : c.val / 2 % 2 = p.val <;> simp only [h1, h2, decide_true, decide_false, and_self, and_false, false_and, if_true, if_false]
  · exact (toInt_of_lt _ 1 (by decide) (by norm_num)).trans (by norm_num)
  all_goals exact (toInt_of_lt _ 0 (by decide) (by norm_num)).trans (by norm_num)

/-- The spread input as a function of its index. -/
def spreadAt (x : Vec Ideal S48x4096 .bf16) (i : S96x8192.Idx) : EReal :=
  if (i 1).val / 2 % 2 = (i 0).val / 48 then
    x (ix2 (⟨(i 0).val % 48, Nat.mod_lt _ (by norm_num)⟩ : Fin 48)
      (⟨128 * ((i 1).val / 256) + sourceCol ((i 1).val % 256), by
        have h : (i 1).val < 8192 := (i 1).isLt
        have := sourceCol_lt ((i 1).val % 256) (by omega)
        omega⟩ : Fin 4096))
  else 0

/-- Each store holds the spread input at the place it is stored to. -/
theorem xPiece_apply (x : Vec Ideal S48x4096 .bf16) (p : Fin 2) (t : Fin 32) (j : (xPiece x p t).1.shape.Idx) :
    (xPiece x p t).2 j = spreadAt x ((xPiece x p t).1.emb j) := by
  obtain ⟨b, c, rfl⟩ : ∃ (b : Fin 48) (c : Fin 256), j = ix2 b c := ⟨j 0, j 1, eq_ix2 j⟩
  show shapeCast S48x256 (truncf .bf16 _ _) _ (ix2 b c) = _
  pointwise [select01_apply, dot_S48x128_S128x256_S48x256_1_0_0_1_n_n]
  have hc : c.val < 256 := c.isLt
  have hb : b.val < 48 := b.isLt
  have ec : (256 * t.val + 1 * c.val) / 2 % 2 = c.val / 2 % 2 := by omega
  have eb : (48 * p.val + 1 * b.val) / 48 = p.val := by omega
  have hR : spreadAt x ((xPiece x p t).1.emb (ix2 b c)) = if c.val / 2 % 2 = p.val then
      ldIn x t (ix2 b (⟨sourceCol c.val, sourceCol_lt _ hc⟩ : Fin 128)) else 0 := by
    unfold spreadAt
    show (if (256 * t.val + 1 * c.val) / 2 % 2 = (48 * p.val + 1 * b.val) / 48 then _ else _) = _
    rw [ec, eb]
    refine if_congr Iff.rfl (congrArg x (funext fun a => Fin.ext ?_)) rfl
    match a with
    | ⟨0, _⟩ => show (48 * p.val + 1 * b.val) % 48 = 0 + 1 * b.val; omega
    | ⟨1, _⟩ =>
      show 128 * ((256 * t.val + 1 * c.val) / 256) + sourceCol ((256 * t.val + 1 * c.val) % 256) = 128 * t.val + 1 * sourceCol c.val
      rw [show (256 * t.val + 1 * c.val) % 256 = c.val by omega]; omega
  rw [hR]
  by_cases h : c.val / 2 % 2 = p.val
  · rw [if_pos h, Finset.sum_eq_single (⟨sourceCol c.val, sourceCol_lt _ hc⟩ : Fin 128)]
    · rw [if_pos ⟨rfl, h⟩, mul_one]
    · intro k _ hk
      rw [if_neg fun hh => hk (Fin.ext hh.1), mul_zero]
    · intro hk; exact absurd (Finset.mem_univ _) hk
  · rw [if_neg h]
    exact Finset.sum_eq_zero fun k _ => by rw [if_neg fun hh => h hh.2, mul_zero]

/-- Where a store goes. -/
theorem mem_xRect (p : Fin 2) (t : Fin 32) (i : S96x8192.Idx)
    (h0 : 48 * p.val ≤ (i 0).val ∧ (i 0).val < 48 * p.val + 48) (h1 : 256 * t.val ≤ (i 1).val ∧ (i 1).val < 256 * t.val + 256) :
    i ∈ (xRect p t).set := by
  unfold xRect
  refine Rect.mem_set_unit.2 fun a => ?_
  match a with
  | ⟨0, _⟩ => exact h0
  | ⟨1, _⟩ => exact h1

/-- The stores are those of every parity and column block. -/
theorem mem_xPieces (x : Vec Ideal S48x4096 .bf16) : ∀ (n : ℕ) (h : n ≤ 64) (q : View.Piece (Elt Ideal) S96x8192 .bf16),
    q ∈ xPieces x n h ↔ ∃ (k : ℕ) (hk : k < n), q = xPiece x ⟨k / 32, by omega⟩ ⟨k % 32, by omega⟩
  | 0, _, q => by simp [xPieces]
  | n + 1, h, q => by
    rw [xPieces, List.mem_cons, mem_xPieces x n (by omega) q]
    constructor
    · rintro (rfl | ⟨k, hk, rfl⟩)
      · exact ⟨n, by omega, rfl⟩
      · exact ⟨k, by omega, rfl⟩
    · rintro ⟨k, hk, rfl⟩
      by_cases hkn : k = n
      · subst hkn; exact Or.inl rfl
      · exact Or.inr ⟨k, by omega, rfl⟩

/-- The spread input. -/
theorem spread_apply (x : Vec Ideal S48x4096 .bf16) (i : S96x8192.Idx) : spread x i = spreadAt x i := by
  refine View.canon_apply_of_pieces (Val := Elt Ideal) (S := S96x8192) (e := .bf16) (spreadAt x) _ (fun q hq j => ?_) i ?_
  · obtain ⟨k, hk, rfl⟩ := (mem_xPieces x _ _ q).1 hq
    exact xPiece_apply x _ _ j
  · have h0 : (i 0).val < 96 := (i 0).isLt
    have h1 : (i 1).val < 8192 := (i 1).isLt
    refine ⟨_, (mem_xPieces x _ _ _).2 ⟨(i 0).val / 48 * 32 + (i 1).val / 256, by omega, rfl⟩, ?_⟩
    exact mem_xRect _ _ i (by dsimp only; constructor <;> omega) (by dsimp only; constructor <;> omega)

end Cert.KernelIdeal.Block

end
-- ==== Proof.Output.lean ====
/-
  The stores of the output block: where each element of the accumulator goes.
-/
module

public import proofs.«01_k».proof.Proof.Block

@[expose] public section

noncomputable section

open Idealize.ShloMosaic Idealize.ShloMosaic.TcCoe Idealize.SL.Sem

namespace Cert.KernelIdeal.Block
open Cert.KernelIdeal Cert.KernelIdeal.Gen

/-- The lane that output lane `l` is gathered from. -/
theorem lanes_word (a : Fin 2) (l : Fin 128) :
    (Scalar.select (IntOp.cmpi .slt (IntOp.addi (IntOp.shrsi .vector (BitVec.ofNat 32 l.val) 1#32) (BitVec.ofNat 32 (64 * a.val))) 0#32)
      (IntOp.addi (IntOp.addi (IntOp.shrsi .vector (BitVec.ofNat 32 l.val) 1#32) (BitVec.ofNat 32 (64 * a.val))) 128#32)
      (IntOp.addi (IntOp.shrsi .vector (BitVec.ofNat 32 l.val) 1#32) (BitVec.ofNat 32 (64 * a.val)))).toNat % 128 = l.val / 2 + 64 * a.val := by
  revert a l; decide +kernel

/-- The gather of the output lanes. -/
theorem pick_apply (v : FVec Ideal S48x128 .f32) (a : Fin 2) (b : Fin 48) (l : Fin 128) :
    pick v (BitVec.ofNat 32 (64 * a.val)) (ix2 b l) = v (ix2 b ⟨l.val / 2 + 64 * a.val, by omega⟩) := by
  unfold pick lanes
  pointwise
  exact congrArg v (congrArg (ix2 b) (Fin.ext (lanes_word a l)))

/-- Even lanes come from the upper half, odd lanes from the lower half. -/
theorem even_word {α : Type} (x y : α) (l : Fin 128) :
    Scalar.select (IntOp.cmpi .eq (IntOp.andi (BitVec.ofNat 32 l.val) 1#32) 0#32) x y = if l.val % 2 = 0 then x else y := by
  have h : ∀ l : Fin 128, IntOp.cmpi .eq (IntOp.andi (BitVec.ofNat 32 l.val) 1#32) 0#32 = BitVec.ofBool (decide (l.val % 2 = 0)) := by
    decide +kernel
  rw [h l, Scalar.select_ofBool]; simp

/-- 128 columns of the output. -/
theorem out_apply (acc : FVec Ideal S96x256 .f32) (i a : Fin 2) (h : S48x256.Slices ![0, 128 * i.val] S48x128) (b : Fin 48) (l : Fin 128) :
    out acc (128 * i.val) h (BitVec.ofNat 32 (64 * a.val)) (ix2 b l)
      = acc (ix2 (⟨48 * (l.val % 2) + b.val, by omega⟩ : Fin 96) (⟨128 * i.val + 64 * a.val + l.val / 2, by omega⟩ : Fin 256)) := by
  unfold out
  pointwise [pick_apply]
  rw [even_word]
  split_ifs with hl
  · exact congrArg acc (congrArg₂ ix2 (Fin.ext (by dsimp only; omega)) (Fin.ext (by dsimp only; omega)))
  · exact congrArg acc (congrArg₂ ix2 (Fin.ext (by dsimp only; omega)) (Fin.ext (by dsimp only; omega)))

/-- The output block as a function of its index: column `2 r + p` is column `r` of the accumulator's half `p`. -/
def outAt (acc : FVec Ideal S96x256 .f32) (i : S48x512.Idx) : EReal :=
  have h0 : (i 0).val < 48 := (i 0).isLt
  have h1 : (i 1).val < 512 := (i 1).isLt
  acc (ix2 (⟨48 * ((i 1).val % 2) + (i 0).val, by omega⟩ : Fin 96) (⟨(i 1).val / 2, by omega⟩ : Fin 256))

/-- Each store holds the elements of the place it is stored to. -/
theorem out_at (acc : FVec Ideal S96x256 .f32) (i a : Fin 2) (h : S48x256.Slices ![0, 128 * i.val] S48x128)
    (inb : ∀ k, (![0, 128 * (2 * i.val + a.val)] : Fin 2 → ℕ) k + (![48, 128] : Fin 2 → ℕ) k ≤ S48x512.size k) (j : S48x128.Idx) :
    out acc (128 * i.val) h (BitVec.ofNat 32 (64 * a.val)) j
      = outAt acc ((Rect.unit (s := S48x512) ![0, 128 * (2 * i.val + a.val)] ![48, 128] inb).emb j) := by
  obtain ⟨b, l, rfl⟩ : ∃ (b : Fin 48) (l : Fin 128), j = ix2 b l := ⟨j 0, j 1, eq_ix2 j⟩
  rw [out_apply]
  refine congrArg acc (congrArg₂ ix2 (Fin.ext ?_) (Fin.ext ?_))
  · show 48 * (l.val % 2) + b.val = 48 * ((128 * (2 * i.val + a.val) + 1 * l.val) % 2) + (0 + 1 * b.val)
    omega
  · show 128 * i.val + 64 * a.val + l.val / 2 = (128 * (2 * i.val + a.val) + 1 * l.val) / 2
    omega

/-- The four stores fill the block. -/
theorem canon_pieces (acc : FVec Ideal S96x256 .f32) (i : S48x512.Idx) : View.canon (pieces acc) i = outAt acc i := by
  refine View.canon_apply_of_pieces (Val := Elt Ideal) (S := S48x512) (e := .bf16) (outAt acc) _ (fun q hq j => ?_) i ?_
  · simp only [pieces, List.mem_cons, List.not_mem_nil, or_false] at hq
    rcases hq with rfl | rfl | rfl | rfl
    · exact out_at acc 1 1 slices_S48x256_o0_128_S48x128 inb_S48x512_S48x128_0_384 j
    · exact out_at acc 1 0 slices_S48x256_o0_128_S48x128 inb_S48x512_S48x128_0_256 j
    · exact out_at acc 0 1 slices_S48x256_o0_0_S48x128 inb_S48x512_S48x128_0_128 j
    · exact out_at acc 0 0 slices_S48x256_o0_0_S48x128 inb_S48x512_S48x128_0_0 j
  · have h0 : (i 0).val < 48 := (i 0).isLt
    have h1 : (i 1).val < 512 := (i 1).isLt
    have hm : ∀ (o : ℕ) (inb : ∀ k, (![0, o] : Fin 2 → ℕ) k + (![48, 128] : Fin 2 → ℕ) k ≤ S48x512.size k), o ≤ (i 1).val → (i 1).val < o + 128 →
        i ∈ (Rect.unit (s := S48x512) ![0, o] ![48, 128] inb).set := by
      intro o inb h2 h3
      refine Rect.mem_set_unit.2 fun a => ?_
      match a with
      | ⟨0, _⟩ => exact ⟨Nat.zero_le _, (show (i 0).val < 0 + 48 by omega)⟩
      | ⟨1, _⟩ => exact ⟨h2, h3⟩
    have hc : 384 ≤ (i 1).val ∨ (256 ≤ (i 1).val ∧ (i 1).val < 384) ∨ (128 ≤ (i 1).val ∧ (i 1).val < 256) ∨ (i 1).val < 128 := by omega
    rcases hc with h | h | h | h
    · refine ⟨⟨Rect.unit ![0, 384] ![48, 128] inb_S48x512_S48x128_0_384, out acc 128 slices_S48x256_o0_128_S48x128 64#32⟩, ?_, ?_⟩
      · exact List.mem_cons_self
      · exact hm 384 inb_S48x512_S48x128_0_384 h (by omega)
    · refine ⟨⟨Rect.unit ![0, 256] ![48, 128] inb_S48x512_S48x128_0_256, out acc 128 slices_S48x256_o0_128_S48x128 0#32⟩, ?_, ?_⟩
      · exact List.mem_cons_of_mem _ List.mem_cons_self
      · exact hm 256 inb_S48x512_S48x128_0_256 h.1 (by omega)
    · refine ⟨⟨Rect.unit ![0, 128] ![48, 128] inb_S48x512_S48x128_0_128, out acc 0 slices_S48x256_o0_0_S48x128 64#32⟩, ?_, ?_⟩
      · exact List.mem_cons_of_mem _ (List.mem_cons_of_mem _ List.mem_cons_self)
      · exact hm 128 inb_S48x512_S48x128_0_128 h.1 (by omega)
    · refine ⟨⟨Rect.unit ![0, 0] ![48, 128] inb_S48x512_S48x128_0_0, out acc 0 slices_S48x256_o0_0_S48x128 0#32⟩, ?_, ?_⟩
      · exact List.mem_cons_of_mem _ (List.mem_cons_of_mem _ (List.mem_cons_of_mem _ List.mem_cons_self))
      · exact hm 0 inb_S48x512_S48x128_0_0 (Nat.zero_le _) (by omega)

end Cert.KernelIdeal.Block

end
-- ==== Proof.BlockValue.lean ====
/-
  One element of the block that a grid point computes.
-/
module

public import proofs.«01_k».proof.Proof.Weights
public import proofs.«01_k».proof.Proof.Spread
public import proofs.«01_k».proof.Proof.Output

@[expose] public section

noncomputable section

open Idealize.ShloMosaic Idealize.ShloMosaic.TcCoe Idealize.SL.Sem

namespace Cert.KernelIdeal.Block
open Cert.KernelIdeal Cert.KernelIdeal.Gen Cert.Number

/-- The columns of one parity, over all column blocks, are the groups' positions and halves. -/
theorem sum_columns (p : Fin 2) (f : Fin 32 → Fin 256 → EReal) :
    (∑ t : Fin 32, ∑ c : Fin 256, if c.val / 2 % 2 = p.val then f t c else 0)
      = ∑ g : Fin 64, ∑ j : Fin 32, ∑ h : Fin 2, f ⟨g.val / 2, by omega⟩ ⟨128 * (g.val % 2) + 4 * j.val + 2 * p.val + h.val, by omega⟩ := by
  simp only [← Fintype.sum_prod_type']
  rw [← Finset.sum_filter]
  refine Finset.sum_nbij'
    (fun a : Fin 32 × Fin 256 => ((⟨2 * a.1.val + a.2.val / 128, by omega⟩, (⟨a.2.val / 4 % 32, by omega⟩, ⟨a.2.val % 2, by omega⟩)) : Fin 64 × Fin 32 × Fin 2))
    (fun b : Fin 64 × Fin 32 × Fin 2 => ((⟨b.1.val / 2, by omega⟩, ⟨128 * (b.1.val % 2) + 4 * b.2.1.val + 2 * p.val + b.2.2.val, by omega⟩) : Fin 32 × Fin 256))
    ?_ ?_ ?_ ?_ ?_
  · intro a _; exact Finset.mem_univ _
  · rintro ⟨g, j, h⟩ _
    refine Finset.mem_filter.2 ⟨Finset.mem_univ _, ?_⟩
    show (128 * (g.val % 2) + 4 * j.val + 2 * p.val + h.val) / 2 % 2 = p.val
    omega
  · rintro ⟨t, c⟩ hm
    have hp : c.val / 2 % 2 = p.val := (Finset.mem_filter.1 hm).2
    refine Prod.ext (Fin.ext ?_) (Fin.ext ?_)
    · show (2 * t.val + c.val / 128) / 2 = t.val
      omega
    · show 128 * ((2 * t.val + c.val / 128) % 2) + 4 * (c.val / 4 % 32) + 2 * p.val + c.val % 2 = c.val
      omega
  · rintro ⟨g, j, h⟩ _
    refine Prod.ext (Fin.ext ?_) (Prod.ext (Fin.ext ?_) (Fin.ext ?_))
    · show 2 * (g.val / 2) + (128 * (g.val % 2) + 4 * j.val + 2 * p.val + h.val) / 128 = g.val
      omega
    · show (128 * (g.val % 2) + 4 * j.val + 2 * p.val + h.val) / 4 % 32 = j.val
      omega
    · show (128 * (g.val % 2) + 4 * j.val + 2 * p.val + h.val) % 2 = h.val
      omega
  · rintro ⟨t, c⟩ hm
    have hp : c.val / 2 % 2 = p.val := (Finset.mem_filter.1 hm).2
    refine congrArg₂ f (Fin.ext ?_) (Fin.ext ?_)
    · show t.val = (2 * t.val + c.val / 128) / 2
      omega
    · show c.val = 128 * ((2 * t.val + c.val / 128) % 2) + 4 * (c.val / 4 % 32) + 2 * p.val + c.val % 2
      omega

/-- The columns of the spread input that step `tt` reads. -/
theorem ldX_apply (x : Vec Ideal S48x4096 .bf16) (tt : Fin 32) (p : Fin 2) (b : Fin 48) (c : Fin 256) :
    ldX (spread x) tt (ix2 (⟨48 * p.val + b.val, by omega⟩ : Fin 96) c) = if c.val / 2 % 2 = p.val then
      x (ix2 b (⟨128 * tt.val + sourceCol c.val, by have := sourceCol_lt c.val c.isLt; omega⟩ : Fin 4096)) else 0 := by
  refine (spread_apply x _).trans ?_
  unfold spreadAt
  have e1 : (256 * tt.val + 1 * c.val) / 256 = tt.val := by omega
  have e2 : (256 * tt.val + 1 * c.val) % 256 = c.val := by omega
  show (if (256 * tt.val + 1 * c.val) / 2 % 2 = (0 + 1 * (48 * p.val + b.val)) / 48 then _ else _) = _
  rw [show (256 * tt.val + 1 * c.val) / 2 % 2 = c.val / 2 % 2 by omega, show (0 + 1 * (48 * p.val + b.val)) / 48 = p.val by omega]
  refine if_congr Iff.rfl (congrArg x (congrArg₂ ix2 (Fin.ext ?_) (Fin.ext ?_))) rfl
  · show (0 + 1 * (48 * p.val + b.val)) % 48 = b.val
    omega
  · show 128 * ((256 * tt.val + 1 * c.val) / 256) + sourceCol ((256 * tt.val + 1 * c.val) % 256) = 128 * tt.val + sourceCol c.val
    rw [e1, e2]

/-- What step `tt` adds to one element of the accumulator. -/
theorem product_apply (Q : Vec Ideal S512x2048 .i8) (X : Vec Ideal S96x8192 .bf16) (S M : Scr) (tt : Fin 32) (R : Fin 96) (r : Fin 256) :
    product Q X S M tt (ix2 R r) = ∑ c : Fin 256, ldX X tt (ix2 R c) * weights (codes (words (ldCodes Q ⟨tt.val / 2, by omega⟩))) S M tt (ix2 c r) := by
  unfold product
  pointwise [dot_S96x256_S256x256_S96x256_1_0_0_1_n_n]

/-- The accumulator after `n` steps is the sum of what the steps add. -/
theorem accTo_apply (Q : Vec Ideal S512x2048 .i8) (X : Vec Ideal S96x8192 .bf16) (S M : Scr) (R : Fin 96) (r : Fin 256) :
    ∀ (n : ℕ) (h : n ≤ 32), accTo Q X S M n h (ix2 R r) = ∑ t : Fin n, product Q X S M ⟨t.val, by omega⟩ (ix2 R r)
  | 0, _ => by
    unfold accTo
    pointwise
    simp
  | n + 1, h => by
    rw [Fin.sum_univ_castSucc, accTo]
    show accTo Q X S M n _ (ix2 R r) + product Q X S M ⟨n, _⟩ (ix2 R r) = _
    rw [accTo_apply Q X S M R r n (by omega)]
    rfl

/-- One element of the block: column `n` of row `b` is the element of the product of the input's row `b` and the
weights of column `n`. -/
theorem result_apply (Q : Vec Ideal S512x2048 .i8) (x : Vec Ideal S48x4096 .bf16) (D D' : Vec Ideal S16x512 .i16)
    (C C' : Vec Ideal S512x128 .i8) (b : Fin 48) (n : Fin 512) :
    result Q (spread x) D D' C C' (ix2 b n)
      = element (fun k => x (ix2 b k)) (fun k => Q (ix2 n k)) (fun s => D (ix2 s n)) (fun s => D' (ix2 s n))
        (fun u => C (ix2 n u)) (fun u => C' (ix2 n u)) := by
  unfold result
  rw [canon_pieces]
  show accTo Q (spread x) (scales C D) (scales C' D') 32 le_rfl
    (ix2 (⟨48 * (n.val % 2) + b.val, by omega⟩ : Fin 96) (⟨n.val / 2, by omega⟩ : Fin 256)) = _
  rw [accTo_apply]
  simp only [product_apply]
  have hx := fun tt c => ldX_apply x tt ⟨n.val % 2, by omega⟩ b c
  simp only at hx
  simp only [hx, ite_mul, zero_mul]
  refine (sum_columns ⟨n.val % 2, by omega⟩ fun t c => _).trans ?_
  unfold element
  refine Finset.sum_congr rfl fun g _ => Finset.sum_congr rfl fun j _ => Finset.sum_congr rfl fun h _ => ?_
  have hw := tile_apply Q D D' C C' ⟨g.val / 2, by omega⟩ ⟨128 * (g.val % 2) + 4 * j.val + 2 * (n.val % 2) + h.val, by omega⟩ ⟨n.val / 2, by omega⟩
    n ⟨32 * g.val + j.val, by omega⟩ ⟨g.val / 4, by omega⟩ ⟨2 * g.val + h.val, by omega⟩ (by dsimp only; omega) (by dsimp only; omega)
    (by dsimp only; omega) (by dsimp only; omega)
  rw [show (128 * (g.val % 2) + 4 * j.val + 2 * (n.val % 2) + h.val) % 2 = h.val by omega] at hw
  refine congrArg₂ (· * ·) (congrArg x (congrArg (ix2 b) (Fin.ext ?_))) hw
  show 128 * (g.val / 2) + sourceCol (128 * (g.val % 2) + 4 * j.val + 2 * (n.val % 2) + h.val) = 64 * g.val + 32 * h.val + j.val
  unfold sourceCol
  omega

end Cert.KernelIdeal.Block

end
-- ==== Proof.Array.lean ====
/-
  The array the kernel leaves: every element is the element of the product that the arguments give.
-/
module

public import proofs.«01_k».proof.Proof.BlockRun
public import proofs.«01_k».proof.Proof.BlockValue

@[expose] public section

set_option maxRecDepth 65536

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Number

variable (m : (ℓ : Loc nD τ sig) → Buf (Elt Ideal) ℓ)

/-- Where the blocks of the arguments lie: the input is one block, the codes and scale bytes move down by 512 rows per
grid point, the patterns and the result move right by 512 columns. -/
theorem index_maps : ∀ t : Fin cfg0.N,
    (win0_0.index t (0 : Fin 2) = 0 ∧ win0_0.index t (1 : Fin 2) = 0) ∧ (win0_1.index t (0 : Fin 2) = t.val ∧ win0_1.index t (1 : Fin 2) = 0)
    ∧ (win0_2.index t (0 : Fin 2) = 0 ∧ win0_2.index t (1 : Fin 2) = t.val) ∧ (win0_3.index t (0 : Fin 2) = 0 ∧ win0_3.index t (1 : Fin 2) = t.val)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = 0 ∧ win0_6.index t (1 : Fin 2) = t.val) :=
  (by decide +kernel : ∀ t : Fin grid0.N, _)

/-- There are 43 grid points. -/
theorem point_lt (t : Fin cfg0.N) : t.val < 43 := lt_of_lt_of_eq t.isLt N_0

/-- Dropping the unit axis. -/
theorem drop_axis (x : S48x1x4096.Idx → EReal) (b : Fin 48) (k : Fin 4096) :
    shapeCast S48x4096 x shapeCasts_S48x1x4096_S48x4096 (ix2 b k) = x (ix3 b 0 k) := by
  pointwise

/-- The first argument of the kernel call is the input without its unit axis. -/
theorem V_x (c : Dev nD) (b : Fin 48) (k : Fin 4096) :
    (V m c main_v2 : S48x4096.Idx → EReal) (ix2 b k) = (m ((c.tc : Thread nD τ).loc main_arg0) : S48x1x4096.Idx → EReal) (ix3 b 0 k) := by
  unfold V
  after_results
  exact drop_axis _ b k

/-- The patterns of the scales, transposed. -/
theorem V_d (c : Dev nD) (s : Fin 16) (n : Fin 22016) :
    (V m c main_v0 : S16x22016.Idx → BitVec 16) (ix2 s n) = (m ((c.tc : Thread nD τ).loc main_arg2) : S22016x16.Idx → BitVec 16) (ix2 n s) := by
  unfold V
  after_results
  show transpose S16x22016 [1, 0] (m ((c.tc : Thread nD τ).loc main_arg2) : S22016x16.Idx → BitVec 16) transposes_S22016x16_S16x22016_1_0 (ix2 s n) = _
  pointwise

/-- The patterns of the offsets, transposed. -/
theorem V_dm (c : Dev nD) (s : Fin 16) (n : Fin 22016) :
    (V m c main_v1 : S16x22016.Idx → BitVec 16) (ix2 s n) = (m ((c.tc : Thread nD τ).loc main_arg3) : S22016x16.Idx → BitVec 16) (ix2 n s) := by
  unfold V
  after_results
  show transpose S16x22016 [1, 0] (m ((c.tc : Thread nD τ).loc main_arg3) : S22016x16.Idx → BitVec 16) transposes_S22016x16_S16x22016_1_0 (ix2 s n) = _
  pointwise

/-- The block of the input. -/
theorem iblk_x (c : Dev nD) (t : Fin cfg0.N) (b : Fin 48) (k : Fin 4096) :
    (iblk m c 0 t : S48x4096.Idx → EReal) (ix2 b k) = (m ((c.tc : Thread nD τ).loc main_arg0) : S48x1x4096.Idx → EReal) (ix3 b 0 k) := by
  refine Eq.trans (congrArg (V m c main_v2 : S48x4096.Idx → EReal) (funext fun a => Fin.ext ?_)) (V_x m c b k)
  obtain ⟨⟨h0, h1⟩, -⟩ := index_maps t
  match a with
  | ⟨0, _⟩ => show win0_0.index t (0 : Fin 2) * 48 + 1 * b.val = b.val; omega
  | ⟨1, _⟩ => show win0_0.index t (1 : Fin 2) * 4096 + 1 * k.val = k.val; omega

/-- The block of the code bytes. -/
theorem iblk_q (c : Dev nD) (t : Fin cfg0.N) (n : Fin 512) (k : Fin 2048) (N : Fin 22016) (hN : N.val = 512 * t.val + n.val) :
    (iblk m c 1 t : S512x2048.Idx → BitVec 8) (ix2 n k) = (m ((c.tc : Thread nD τ).loc main_arg1) : S22016x2048.Idx → BitVec 8) (ix2 N k) := by
  refine Eq.trans (congrArg (V m c main_arg1 : S22016x2048.Idx → BitVec 8) (funext fun a => Fin.ext ?_)) (congrFun (V_main_arg1 m c) _)
  obtain ⟨-, ⟨h0, h1⟩, -⟩ := index_maps t
  match a with
  | ⟨0, _⟩ => show win0_1.index t (0 : Fin 2) * 512 + 1 * n.val = N.val; omega
  | ⟨1, _⟩ => show win0_1.index t (1 : Fin 2) * 2048 + 1 * k.val = k.val; omega

/-- The block of the scale patterns. -/
theorem iblk_d (c : Dev nD) (t : Fin cfg0.N) (s : Fin 16) (n : Fin 512) (N : Fin 22016) (hN : N.val = 512 * t.val + n.val) :
    (iblk m c 2 t : S16x512.Idx → BitVec 16) (ix2 s n) = (m ((c.tc : Thread nD τ).loc main_arg2) : S22016x16.Idx → BitVec 16) (ix2 N s) := by
  refine Eq.trans (congrArg (V m c main_v0 : S16x22016.Idx → BitVec 16) (funext fun a => Fin.ext ?_)) (V_d m c s N)
  obtain ⟨-, -, ⟨h0, h1⟩, -⟩ := index_maps t
  match a with
  | ⟨0, _⟩ => show win0_2.index t (0 : Fin 2) * 16 + 1 * s.val = s.val; omega
  | ⟨1, _⟩ => show win0_2.index t (1 : Fin 2) * 512 + 1 * n.val = N.val; omega

/-- The block of the offset patterns. -/
theorem iblk_dm (c : Dev nD) (t : Fin cfg0.N) (s : Fin 16) (n : Fin 512) (N : Fin 22016) (hN : N.val = 512 * t.val + n.val) :
    (iblk m c 3 t : S16x512.Idx → BitVec 16) (ix2 s n) = (m ((c.tc : Thread nD τ).loc main_arg3) : S22016x16.Idx → BitVec 16) (ix2 N s) := by
  refine Eq.trans (congrArg (V m c main_v1 : S16x22016.Idx → BitVec 16) (funext fun a => Fin.ext ?_)) (V_dm m c s N)
  obtain ⟨-, -, -, ⟨h0, h1⟩, -⟩ := index_maps t
  match a with
  | ⟨0, _⟩ => show win0_3.index t (0 : Fin 2) * 16 + 1 * s.val = s.val; omega
  | ⟨1, _⟩ => show win0_3.index t (1 : Fin 2) * 512 + 1 * n.val = N.val; omega

/-- The block of the scale bytes. -/
theorem iblk_s (c : Dev nD) (t : Fin cfg0.N) (n : Fin 512) (k : Fin 128) (N : Fin 22016) (hN : N.val = 512 * t.val + n.val) :
    (iblk m c 4 t : S512x128.Idx → BitVec 8) (ix2 n k) = (m ((c.tc : Thread nD τ).loc main_arg4) : S22016x128.Idx → BitVec 8) (ix2 N k) := by
  refine Eq.trans (congrArg (V m c main_arg4 : S22016x128.Idx → BitVec 8) (funext fun a => Fin.ext ?_)) (congrFun (V_main_arg4 m c) _)
  obtain ⟨-, -, -, -, ⟨h0, h1⟩, -⟩ := index_maps t
  match a with
  | ⟨0, _⟩ => show win0_4.index t (0 : Fin 2) * 512 + 1 * n.val = N.val; omega
  | ⟨1, _⟩ => show win0_4.index t (1 : Fin 2) * 128 + 1 * k.val = k.val; omega

/-- The block of the offset bytes. -/
theorem iblk_m (c : Dev nD) (t : Fin cfg0.N) (n : Fin 512) (k : Fin 128) (N : Fin 22016) (hN : N.val = 512 * t.val + n.val) :
    (iblk m c 5 t : S512x128.Idx → BitVec 8) (ix2 n k) = (m ((c.tc : Thread nD τ).loc main_arg5) : S22016x128.Idx → BitVec 8) (ix2 N k) := by
  refine Eq.trans (congrArg (V m c main_arg5 : S22016x128.Idx → BitVec 8) (funext fun a => Fin.ext ?_)) (congrFun (V_main_arg5 m c) _)
  obtain ⟨-, -, -, -, -, ⟨h0, h1⟩, -⟩ := index_maps t
  match a with
  | ⟨0, _⟩ => show win0_5.index t (0 : Fin 2) * 512 + 1 * n.val = N.val; omega
  | ⟨1, _⟩ => show win0_5.index t (1 : Fin 2) * 128 + 1 * k.val = k.val; omega

/-- The input without its unit axis. -/
def input (c : Dev nD) : Vec Ideal S48x4096 .bf16 := V m c main_v2

/-- Every grid point loads the whole input. -/
theorem iblk_input (c : Dev nD) (t : Fin cfg0.N) : (iblk m c 0 t : Vec Ideal S48x4096 .bf16) = input m c := by
  funext j
  refine congrArg (V m c main_v2 : S48x4096.Idx → EReal) (funext fun a => Fin.ext ?_)
  obtain ⟨⟨h0, h1⟩, -⟩ := index_maps t
  match a with
  | ⟨0, _⟩ => show win0_0.index t (0 : Fin 2) * 48 + 1 * (j 0).val = (j 0).val; omega
  | ⟨1, _⟩ => show win0_0.index t (1 : Fin 2) * 4096 + 1 * (j 1).val = (j 1).val; omega

/-- After every grid point the first scratch buffer holds the spread input. -/
theorem scratch (c : Dev nD) : ∀ (n : ℕ) (h : n < cfg0.N), (outsAt0 m c n h).2 = Block.spread (input m c)
  | 0, h => by
    have e := congrArg Prod.snd (outsAt0_A m c ⟨0, h⟩ rfl)
    refine e.trans ?_
    dsimp only
    rw [sout_A, iblk_input]
  | n + 1, h => by
    have hlt : n + 1 < 43 := lt_of_lt_of_eq h N_0
    have e := congrArg Prod.snd (outsAt0_B m c ⟨n + 1, h⟩ (show ¬(n + 1) % 43 = 0 by omega))
    exact e.trans (scratch c n (Nat.lt_of_succ_lt h))

/-- What every grid point leaves in the output's buffer. -/
theorem block (c : Dev nD) (t : Fin cfg0.N) :
    (outsAt0 m c t.val t.isLt).1 = Block.result (iblk m c 1 t) (Block.spread (input m c)) (iblk m c 2 t) (iblk m c 3 t) (iblk m c 4 t) (iblk m c 5 t) := by
  by_cases h : t.val % 43 = 0
  · refine (congrArg Prod.fst (outsAt0_A m c t h)).trans ?_
    dsimp only
    rw [out_A, iblk_input]
  · refine (congrArg Prod.fst (outsAt0_B m c t h)).trans ?_
    dsimp only
    rw [out_B, scratch]

/-- The array that the kernel's run leaves. -/
def Y (c : Dev nD) : S48x22016.Idx → EReal := fun i =>
  element (fun k => (m ((c.tc : Thread nD τ).loc main_arg0) : S48x1x4096.Idx → EReal) (ix3 (i 0 : Fin 48) 0 k))
    (fun k => (m ((c.tc : Thread nD τ).loc main_arg1) : S22016x2048.Idx → BitVec 8) (ix2 (i 1 : Fin 22016) k))
    (fun k => (m ((c.tc : Thread nD τ).loc main_arg2) : S22016x16.Idx → BitVec 16) (ix2 (i 1 : Fin 22016) k))
    (fun k => (m ((c.tc : Thread nD τ).loc main_arg3) : S22016x16.Idx → BitVec 16) (ix2 (i 1 : Fin 22016) k))
    (fun k => (m ((c.tc : Thread nD τ).loc main_arg4) : S22016x128.Idx → BitVec 8) (ix2 (i 1 : Fin 22016) k))
    (fun k => (m ((c.tc : Thread nD τ).loc main_arg5) : S22016x128.Idx → BitVec 8) (ix2 (i 1 : Fin 22016) k))

/-- One element of the block of grid point `t`. -/
theorem block_apply (c : Dev nD) (t : Fin cfg0.N) (b : Fin 48) (n : Fin 512) (N : Fin 22016) (hN : N.val = 512 * t.val + n.val) :
    ((outsAt0 m c t.val t.isLt).1 : S48x512.Idx → EReal) (ix2 b n) = Y m c (ix2 b N) := by
  rw [block]
  refine (Block.result_apply _ _ _ _ _ _ b n).trans ?_
  unfold Y
  congr 1
  · funext k; exact V_x m c b k
  · funext k; exact iblk_q m c t n k N hN
  · funext k; exact iblk_d m c t k n N hN
  · funext k; exact iblk_dm m c t k n N hN
  · funext k; exact iblk_s m c t n k N hN
  · funext k; exact iblk_m m c t n k N hN

/-- The array after the run. -/
theorem array (c : Dev nD) : (dats m 0 c).arrAt 6 cfg0.N = Y m c :=
  (dats m 0 c).arrAt_eq_of_cover 6 _ (fun t _ => by
    rw [flushed6]
    funext y
    obtain ⟨-, -, -, -, -, -, ⟨h0, h1⟩⟩ := index_maps t
    have ht := point_lt t
    have hy0 : (y 0).val < 48 := (y 0).isLt
    have hy1 : (y 1).val < 512 := (y 1).isLt
    refine Eq.trans (congrArg (outsAt0 m c t.val t.isLt).1 (funext fun a => Fin.ext ?_))
      ((block_apply m c t ⟨(y 0).val, hy0⟩ ⟨(y 1).val, hy1⟩ ⟨512 * t.val + (y 1).val, by omega⟩ rfl).trans
        (congrArg (Y m c) (funext fun a => Fin.ext ?_)))
    · match a with
      | ⟨0, _⟩ => rfl
      | ⟨1, _⟩ => rfl
    · match a with
      | ⟨0, _⟩ => show (y 0).val = win0_6.index t (0 : Fin 2) * 48 + 1 * (y 0).val; omega
      | ⟨1, _⟩ => show 512 * t.val + (y 1).val = win0_6.index t (1 : Fin 2) * 512 + 1 * (y 1).val; omega)
    (fun i => (covered_iff6 i).2 (by
      have h0 : (i 0).val < 48 := (i 0).isLt
      have h1 : (i 1).val < 22016 := (i 1).isLt
      omega))

end Cert.KernelIdeal.Value

end
-- ==== Proof.RefHalf.lean ====
/-
  Half-precision numbers from their 16 bits as the reference computes them: sign times significand times a power of two.
-/
module

public import proofs.«01_k».proof.Proof.Number

@[expose] public section

noncomputable section

open Idealize.ShloMosaic

namespace Cert.ReferenceIdeal.Element
open Cert.Number

/-- A right shift with sign of a word whose sign bit is clear. -/
theorem toNat_shrsi (u : ArithUnit) (w s : BitVec 32) (n k : ℕ) (hw : w.toNat = n) (hn : n < 2 ^ 31) (hs : s.toNat = k) (hk : k < 32) :
    (IntOp.shrsi u w s).toNat = n / 2 ^ k := by
  unfold IntOp.shrsi
  rw [if_pos (by omega), BitVec.sshiftRight_eq', BitVec.sshiftRight_eq_of_msb_false (BitVec.msb_eq_false_iff_two_mul_lt.2 (by omega)),
    BitVec.toNat_ushiftRight, Nat.shiftRight_eq_div_pow, hw, hs]

/-- A choice by equality of words. -/
theorem select_eq {α : Type} (x y : BitVec 32) (a b : α) :
    Scalar.select (IntOp.cmpi .eq x y) a b = if x.toNat = y.toNat then a else b := by
  refine (Scalar.select_ofBool (x == y) a b).trans ?_
  by_cases h : x = y
  · simp [h]
  · have : x.toNat ≠ y.toNat := fun h' => h (BitVec.eq_of_toNat_eq h')
    simp [h, this]

/-- The exponent field of a widened pattern. -/
theorem toNat_exponent (h : BitVec 16) :
    (IntOp.andi (IntOp.shrsi .host (BitVec.setWidth 32 h) 10#32) 31#32).toNat = h.toNat / 1024 % 32 := by
  have hw : (BitVec.setWidth 32 h).toNat = h.toNat := by rw [BitVec.toNat_setWidth]; have := h.isLt; omega
  unfold IntOp.andi
  rw [BitVec.toNat_and, toNat_shrsi _ _ _ _ 10 hw (by have := h.isLt; omega) rfl (by omega)]
  exact Nat.and_two_pow_sub_one_eq_mod _ 5

/-- The fraction field of a widened pattern. -/
theorem toNat_fraction (h : BitVec 16) : (IntOp.andi (BitVec.setWidth 32 h) 1023#32).toNat = h.toNat % 1024 := by
  have hw : (BitVec.setWidth 32 h).toNat = h.toNat := by rw [BitVec.toNat_setWidth]; have := h.isLt; omega
  unfold IntOp.andi
  rw [BitVec.toNat_and, hw]
  exact Nat.and_two_pow_sub_one_eq_mod _ 10

/-- The single-precision pattern of 2. -/
theorem ofBits_two : Ideal.ofBits .f32 0x40000000#32 = ((2 : ℝ) : EReal) := by
  simp [Ideal.ofBits, Ideal.ieee, -EReal.coe_mul]; norm_num

/-- The single-precision pattern of -1. -/
theorem ofBits_neg_one : Ideal.ofBits .f32 0xBF800000#32 = ((-1 : ℝ) : EReal) := by
  simp [Ideal.ofBits, Ideal.ieee, -EReal.coe_mul]; norm_num

/-- The power's exponent, as an integer. -/
theorem toInt_power (w : BitVec 32) (e : ℕ) (hw : w.toNat = e) (he : e < 32) :
    (IntOp.subi (IntOp.maxsi w 1#32) 25#32).toInt = ((max e 1 : ℕ) : ℤ) - 25 := by
  obtain rfl : w = BitVec.ofNat 32 e := BitVec.eq_of_toNat_eq (by rw [hw, BitVec.toNat_ofNat]; omega)
  clear hw
  interval_cases e <;> decide

/-- The reference's reading of a pattern. -/
theorem half_eq (h : BitVec 16) :
    Scalar.select (IntOp.cmpi .eq (IntOp.shrsi .host (BitVec.setWidth 32 h) 15#32) 1#32)
        (Ideal.ofBits .f32 0xBF800000#32) 1
      * FloatOps.sitofp (F := Ideal) .f32 (Scalar.select
          (IntOp.cmpi .eq (IntOp.andi (IntOp.shrsi .host (BitVec.setWidth 32 h) 10#32) 31#32) 0#32)
          (IntOp.andi (BitVec.setWidth 32 h) 1023#32)
          (IntOp.addi 1024#32 (IntOp.andi (BitVec.setWidth 32 h) 1023#32)))
      * Ideal.pow (Ideal.ofBits .f32 0x40000000#32)
          (FloatOps.sitofp (F := Ideal) .f32 (IntOp.subi (IntOp.maxsi (IntOp.andi (IntOp.shrsi .host (BitVec.setWidth 32 h) 10#32) 31#32) 1#32) 25#32))
    = ((f16R h.toNat : ℝ) : EReal) := by
  have hw : (BitVec.setWidth 32 h).toNat = h.toNat := by rw [BitVec.toNat_setWidth]; have := h.isLt; omega
  have hp : FloatOps.sitofp (F := Ideal) .f32 (IntOp.subi (IntOp.maxsi (IntOp.andi (IntOp.shrsi .host (BitVec.setWidth 32 h) 10#32) 31#32) 1#32) 25#32)
      = (((((max (h.toNat / 1024 % 32) 1 : ℕ) : ℤ) - 25 : ℤ) : ℝ) : EReal) := by
    show ((_ : ℝ) : EReal) = _
    rw [toInt_power _ _ (toNat_exponent h) (by omega)]
  have hs : FloatOps.sitofp (F := Ideal) .f32 (Scalar.select
          (IntOp.cmpi .eq (IntOp.andi (IntOp.shrsi .host (BitVec.setWidth 32 h) 10#32) 31#32) 0#32)
          (IntOp.andi (BitVec.setWidth 32 h) 1023#32)
          (IntOp.addi 1024#32 (IntOp.andi (BitVec.setWidth 32 h) 1023#32)))
      = (((if h.toNat / 1024 % 32 = 0 then h.toNat % 1024 else 1024 + h.toNat % 1024 : ℕ) : ℝ) : EReal) := by
    refine toInt_of_lt _ _ ?_ (by split <;> omega)
    rw [select_eq, toNat_exponent, BitVec.toNat_ofNat]
    split
    · exact toNat_fraction h
    · unfold IntOp.addi
      rw [BitVec.toNat_add, toNat_fraction, BitVec.toNat_ofNat]; omega
  rw [hp, hs, select_eq, toNat_shrsi _ _ _ _ 15 hw (by have := h.isLt; omega) rfl (by omega), ofBits_two, ofBits_neg_one]
  have hpow : Ideal.pow ((2 : ℝ) : EReal) (((((max (h.toNat / 1024 % 32) 1 : ℕ) : ℤ) - 25 : ℤ) : ℝ) : EReal)
      = (((2 : ℝ) ^ (((max (h.toNat / 1024 % 32) 1 : ℕ) : ℤ) - 25) : ℝ) : EReal) := by
    rw [← Real.rpow_intCast]
    rfl
  rw [hpow]
  unfold f16R
  rw [EReal.coe_mul, EReal.coe_mul]
  congr 2
  show (if h.toNat / 32768 = 1 then _ else _) = _
  split <;> rfl

/-- A byte widened to a word, as a number. -/
theorem byte_eq (φ : FTy) (b : BitVec 8) : FloatOps.sitofp (F := Ideal) φ (BitVec.setWidth 32 b) = (((b.toNat : ℕ) : ℝ) : EReal) :=
  toInt_of_lt _ _ (by rw [BitVec.toNat_setWidth]; have := b.isLt; omega) (by have := b.isLt; omega)

/-- The low half of a byte. -/
theorem low_eq (φ : FTy) (b : BitVec 8) :
    FloatOps.sitofp (F := Ideal) φ (IntOp.andi (BitVec.setWidth 32 b) 15#32) = (((b.toNat / 16 ^ 0 % 16 : ℕ) : ℝ) : EReal) := by
  refine toInt_of_lt _ _ ?_ (by omega)
  unfold IntOp.andi
  rw [BitVec.toNat_and, BitVec.toNat_setWidth, Nat.mod_eq_of_lt (by have := b.isLt; omega), pow_zero, Nat.div_one]
  exact Nat.and_two_pow_sub_one_eq_mod _ 4

/-- The high half of a byte. -/
theorem high_eq (φ : FTy) (b : BitVec 8) :
    FloatOps.sitofp (F := Ideal) φ (IntOp.shrsi .host (BitVec.setWidth 32 b) 4#32) = (((b.toNat / 16 ^ 1 % 16 : ℕ) : ℝ) : EReal) := by
  refine toInt_of_lt _ _ ?_ (by omega)
  rw [toNat_shrsi _ _ _ b.toNat 4 (by rw [BitVec.toNat_setWidth]; have := b.isLt; omega) (by have := b.isLt; omega) rfl (by omega)]
  have := b.isLt; omega

end Cert.ReferenceIdeal.Element

end
-- ==== Proof.RefValue.lean ====
/-
  What the reference computes, element by element.
-/
module

public import proofs.«01_k».proof.Proof.Gen.ReferenceIdeal.Run
public import proofs.«01_k».proof.Proof.RefHalf

@[expose] public section

set_option maxRecDepth 65536

noncomputable section

open Idealize.ShloMosaic Idealize.ShloMosaic.TcCoe Idealize.SL.Sem

namespace Cert.ReferenceIdeal.Element
open Cert.ReferenceIdeal Cert.ReferenceIdeal.Gen Cert.Number

/-- Row `b`, column `n` of the reference's result. -/
theorem value_apply (m : (ℓ : Loc nD τ sig) → Buf (Elt Ideal) ℓ) (c : Dev nD) (b : Fin 48) (n : Fin 22016) :
    (Value.res_main_v109 m c : S48x22016.Idx → EReal) (ix2 b n) =
      element (fun k => (m ((c.tc : Thread nD τ).loc main_arg0) : S48x1x4096.Idx → EReal) (ix3 b 0 k))
        (fun k => (m ((c.tc : Thread nD τ).loc main_arg1) : S22016x2048.Idx → BitVec 8) (ix2 n k))
        (fun k => (m ((c.tc : Thread nD τ).loc main_arg2) : S22016x16.Idx → BitVec 16) (ix2 n k))
        (fun k => (m ((c.tc : Thread nD τ).loc main_arg3) : S22016x16.Idx → BitVec 16) (ix2 n k))
        (fun k => (m ((c.tc : Thread nD τ).loc main_arg4) : S22016x128.Idx → BitVec 8) (ix2 n k))
        (fun k => (m ((c.tc : Thread nD τ).loc main_arg5) : S22016x128.Idx → BitVec 8) (ix2 n k)) := by
  unfold Value.res_main_v109
  pointwise [id_eq]
  simp only [half_eq, byte_eq, low_eq, high_eq]
  unfold element weight
  simp only [Fin.sum_univ_two, Finset.sum_add_distrib]
  simp only [show ∀ y : ℕ, y / 4 * 8 + y % 4 * 2 = 2 * y from fun y => by omega,
    show ∀ y : ℕ, y / 4 * 8 + (y % 4 * 2 + 1) = 2 * y + 1 from fun y => by omega,
    Fin.val_zero, Fin.val_one, Fin.coe_ofNat_eq_mod, Nat.zero_mod, Nat.reduceMod, Nat.mul_zero, Nat.mul_one, Nat.add_zero, Nat.mul_comm _ 64, Nat.mul_comm _ 32]

end Cert.ReferenceIdeal.Element

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.RefValue
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

/-- The kernel as printed runs, ends and keeps its arguments. -/
theorem frame_p : Cert.quiescent_Kernel := fun m ρ _ => Cert.Kernel.Gen.frame m ρ
/-- So does the idealized kernel. -/
theorem frame_pi : Cert.quiescent_KernelIdeal := fun m ρ _ => Cert.KernelIdeal.Gen.frame m ρ
/-- And so does the idealized reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The sites at which a packed word became a pair of bf16 rows, one statement per shape. -/
theorem preserves : Cert.preserves_Kernel_KernelIdeal :=
  open Cert.KernelIdeal IdealRules.bf16_pair in
  ⟨bufferStatement S2x512x2x128 S2x512x1x128, packStatement S64x256, statement S1x64x2x128 S1x64x1x128,
    statement S1x8x2x128 S1x8x1x128, statement S16x256 S8x256, packStatement S48x256, statement S96x256 S48x256⟩

/-- The reference's result, over arguments that agree with the kernel's, is the array that the kernel leaves. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Value.res_main_v109 m' c : Cert.KernelIdeal.S48x22016.Idx → EReal) = Cert.KernelIdeal.Value.Y m c := by
  funext i
  obtain ⟨b, n, rfl⟩ : ∃ (b : Fin 48) (n : Fin 22016), i = ix2 b n := ⟨i 0, i 1, eq_ix2 i⟩
  refine (Cert.ReferenceIdeal.Element.value_apply m' c b n).trans ?_
  rw [h0, h1, h2, h3, h4, h5]
  rfl

/-- The kernel and the reference compute the same array. -/
theorem algebraic : Cert.algebraic_KernelIdeal_ReferenceIdeal := fun m g m' g' _ hagree =>
  ⟨fun c => Cert.KernelIdeal.Value.Y m c,
    (θ_run Cert.KernelIdeal.defs _ _).mono
      (fun _ h c => ⟨(h c).1.trans (Cert.KernelIdeal.Value.array m c), (h c).2⟩)
      (Cert.KernelIdeal.Value.run_blocks (F := Ideal) m g),
    (θ_run Cert.ReferenceIdeal.defs _ _).mono
      (fun _ h c => ⟨(h c).1.trans (reference_eq m m' c (hagree c).1 (hagree c).2.1 (hagree c).2.2.1 (hagree c).2.2.2.1
        (hagree c).2.2.2.2.1 (hagree c).2.2.2.2.2), (h c).2⟩)
      (Cert.ReferenceIdeal.Value.run (F := Ideal) m' g')⟩

/-- The five claims. -/
theorem claim : Cert.Claim := ⟨Cert.Kernel.Gen.facts, Cert.KernelIdeal.Gen.facts, Cert.ReferenceIdeal.Gen.facts,
  frame_p, frame_pi, frame_ri, preserves, algebraic⟩

end Cert.Proof

end
